-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v69)) (v2 : (c : Dev Cert.KernelIdeal.nD) → Buf (Elt Ideal) ((c.tc : Thread Cert.KernelIdeal.nD Cert.KernelIdeal.τ).loc Cert.KernelIdeal.main_arg4)) (v3 : (c : Dev Cert.KernelIdeal.nD) → Buf (Elt Ideal) ((c.tc : Thread Cert.KernelIdeal.nD Cert.KernelIdeal.τ).loc Cert.KernelIdeal.main_v71)) (v4 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_arg4) = v2 c
          ∧ r.2.mem ((c.tc : Thread Cert.KernelIdeal.nD Cert.KernelIdeal.τ).loc Cert.KernelIdeal.main_v71) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v64_0) = v1 c
          ∧ r.2.mem ((c.tc : Thread Cert.ReferenceIdeal.nD Cert.ReferenceIdeal.τ).loc Cert.ReferenceIdeal.main_arg4) = v2 c
          ∧ r.2.mem ((c.tc : Thread Cert.ReferenceIdeal.nD Cert.ReferenceIdeal.τ).loc Cert.ReferenceIdeal.main_v64_1) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x2048 : Shape := ⟨3, ![32, 1, 2048]⟩
abbrev S32x1x2x128 : Shape := ⟨4, ![32, 1, 2, 128]⟩
abbrev S32x16384x2x128 : Shape := ⟨4, ![32, 16384, 2, 128]⟩
abbrev S2 : Shape := ⟨1, ![2]⟩
abbrev S255 : Shape := ⟨1, ![255]⟩
abbrev S_ : Shape := ⟨0, ![]⟩
abbrev S2x1 : Shape := ⟨2, ![2, 1]⟩
abbrev S1x255 : Shape := ⟨2, ![1, 255]⟩
abbrev S2x255 : Shape := ⟨2, ![2, 255]⟩
abbrev S1x2 : Shape := ⟨2, ![1, 2]⟩
abbrev S4x2 : Shape := ⟨2, ![4, 2]⟩
abbrev S32x16x128 : Shape := ⟨3, ![32, 16, 128]⟩
abbrev S32x2x128 : Shape := ⟨3, ![32, 2, 128]⟩
abbrev S2x32x128 : Shape := ⟨3, ![2, 32, 128]⟩
abbrev S32x2x16384x128 : Shape := ⟨4, ![32, 2, 16384, 128]⟩
abbrev S1x16x128 : Shape := ⟨3, ![1, 16, 128]⟩
abbrev S1x2x4096x128 : Shape := ⟨4, ![1, 2, 4096, 128]⟩
abbrev S16x1 : Shape := ⟨2, ![16, 1]⟩
abbrev S16x256 : Shape := ⟨2, ![16, 256]⟩
abbrev S1x1 : Shape := ⟨2, ![1, 1]⟩
abbrev S1x32x128 : Shape := ⟨3, ![1, 32, 128]⟩
abbrev S32x128 : Shape := ⟨2, ![32, 128]⟩
abbrev S1x128 : Shape := ⟨2, ![1, 128]⟩
abbrev S16x128 : Shape := ⟨2, ![16, 128]⟩
abbrev S1x1x4096x128 : Shape := ⟨4, ![1, 1, 4096, 128]⟩
abbrev S4096x128 : Shape := ⟨2, ![4096, 128]⟩
abbrev S4096x256 : Shape := ⟨2, ![4096, 256]⟩
abbrev S16x4096 : Shape := ⟨2, ![16, 4096]⟩
abbrev S16 : Shape := ⟨1, ![16]⟩
abbrev S1x1x128 : Shape := ⟨3, ![1, 1, 128]⟩

abbrev nBuf : Space → Nat
  | .hbm => 103
  | .vmem => 17
  | .smem => 1
  | _ => 0

abbrev bufTy : (tb : Table) → Fin (tcTables nBuf tb) → BufTy
  | .hbm, ⟨0, _⟩ => ⟨S32x1x2048, .f32⟩
  | .hbm, ⟨1, _⟩ => ⟨S32x1x2x128, .f32⟩
  | .hbm, ⟨2, _⟩ => ⟨S32x1x2x128, .f32⟩
  | .hbm, ⟨3, _⟩ => ⟨S32x16384x2x128, .fp8e4m3⟩
  | .hbm, ⟨4, _⟩ => ⟨S2, .f32⟩
  | .hbm, ⟨5, _⟩ => ⟨S32x16384x2x128, .fp8e4m3⟩
  | .hbm, ⟨6, _⟩ => ⟨S2, .f32⟩
  | .hbm, ⟨7, _⟩ => ⟨S255, .i32⟩
  | .hbm, ⟨8, _⟩ => ⟨S_, .i32⟩
  | .hbm, ⟨9, _⟩ => ⟨S255, .i32⟩
  | .hbm, ⟨10, _⟩ => ⟨S255, .i32⟩
  | .hbm, ⟨11, _⟩ => ⟨S_, .i32⟩
  | .hbm, ⟨12, _⟩ => ⟨S255, .i32⟩
  | .hbm, ⟨13, _⟩ => ⟨S255, .i32⟩
  | .hbm, ⟨14, _⟩ => ⟨S255, .f32⟩
  | .hbm, ⟨15, _⟩ => ⟨S2, .f32⟩
  | .hbm, ⟨16, _⟩ => ⟨S2x1, .f32⟩
  | .hbm, ⟨17, _⟩ => ⟨S1x255, .f32⟩
  | .hbm, ⟨18, _⟩ => ⟨S2x255, .f32⟩
  | .hbm, ⟨19, _⟩ => ⟨S2x255, .f32⟩
  | .hbm, ⟨20, _⟩ => ⟨S2x255, .i1⟩
  | .hbm, ⟨21, _⟩ => ⟨S2x255, .i32⟩
  | .hbm, ⟨22, _⟩ => ⟨S_, .i32⟩
  | .hbm, ⟨23, _⟩ => ⟨S2, .i32⟩
  | .hbm, ⟨24, _⟩ => ⟨S_, .i32⟩
  | .hbm, ⟨25, _⟩ => ⟨S2, .i32⟩
  | .hbm, ⟨26, _⟩ => ⟨S2, .i1⟩
  | .hbm, ⟨27, _⟩ => ⟨S_, .i32⟩
  | .hbm, ⟨28, _⟩ => ⟨S2, .i32⟩
  | .hbm, ⟨29, _⟩ => ⟨S2, .i1⟩
  | .hbm, ⟨30, _⟩ => ⟨S2, .i1⟩
  | .hbm, ⟨31, _⟩ => ⟨S_, .i32⟩
  | .hbm, ⟨32, _⟩ => ⟨S2, .i32⟩
  | .hbm, ⟨33, _⟩ => ⟨S2, .i32⟩
  | .hbm, ⟨34, _⟩ => ⟨S_, .i32⟩
  | .hbm, ⟨35, _⟩ => ⟨S_, .i32⟩
  | .hbm, ⟨36, _⟩ => ⟨S2, .i32⟩
  | .hbm, ⟨37, _⟩ => ⟨S2, .i32⟩
  | .hbm, ⟨38, _⟩ => ⟨S_, .i32⟩
  | .hbm, ⟨39, _⟩ => ⟨S2, .i32⟩
  | .hbm, ⟨40, _⟩ => ⟨S2, .i32⟩
  | .hbm, ⟨41, _⟩ => ⟨S_, .i32⟩
  | .hbm, ⟨42, _⟩ => ⟨S2, .i32⟩
  | .hbm, ⟨43, _⟩ => ⟨S2, .i32⟩
  | .hbm, ⟨44, _⟩ => ⟨S2, .f32⟩
  | .hbm, ⟨45, _⟩ => ⟨S255, .i32⟩
  | .hbm, ⟨46, _⟩ => ⟨S_, .i32⟩
  | .hbm, ⟨47, _⟩ => ⟨S255, .i32⟩
  | .hbm, ⟨48, _⟩ => ⟨S255, .i32⟩
  | .hbm, ⟨49, _⟩ => ⟨S_, .i32⟩
  | .hbm, ⟨50, _⟩ => ⟨S255, .i32⟩
  | .hbm, ⟨51, _⟩ => ⟨S255, .i32⟩
  | .hbm, ⟨52, _⟩ => ⟨S255, .f32⟩
  | .hbm, ⟨53, _⟩ => ⟨S2, .f32⟩
  | .hbm, ⟨54, _⟩ => ⟨S2x1, .f32⟩
  | .hbm, ⟨55, _⟩ => ⟨S1x255, .f32⟩
  | .hbm, ⟨56, _⟩ => ⟨S2x255, .f32⟩
  | .hbm, ⟨57, _⟩ => ⟨S2x255, .f32⟩
  | .hbm, ⟨58, _⟩ => ⟨S2x255, .i1⟩
  | .hbm, ⟨59, _⟩ => ⟨S2x255, .i32⟩
  | .hbm, ⟨60, _⟩ => ⟨S_, .i32⟩
  | .hbm, ⟨61, _⟩ => ⟨S2, .i32⟩
  | .hbm, ⟨62, _⟩ => ⟨S_, .i32⟩
  | .hbm, ⟨63, _⟩ => ⟨S2, .i32⟩
  | .hbm, ⟨64, _⟩ => ⟨S2, .i1⟩
  | .hbm, ⟨65, _⟩ => ⟨S_, .i32⟩
  | .hbm, ⟨66, _⟩ => ⟨S2, .i32⟩
  | .hbm, ⟨67, _⟩ => ⟨S2, .i1⟩
  | .hbm, ⟨68, _⟩ => ⟨S2, .i1⟩
  | .hbm, ⟨69, _⟩ => ⟨S_, .i32⟩
  | .hbm, ⟨70, _⟩ => ⟨S2, .i32⟩
  | .hbm, ⟨71, _⟩ => ⟨S2, .i32⟩
  | .hbm, ⟨72, _⟩ => ⟨S_, .i32⟩
  | .hbm, ⟨73, _⟩ => ⟨S_, .i32⟩
  | .hbm, ⟨74, _⟩ => ⟨S2, .i32⟩
  | .hbm, ⟨75, _⟩ => ⟨S2, .i32⟩
  | .hbm, ⟨76, _⟩ => ⟨S_, .i32⟩
  | .hbm, ⟨77, _⟩ => ⟨S2, .i32⟩
  | .hbm, ⟨78, _⟩ => ⟨S2, .i32⟩
  | .hbm, ⟨79, _⟩ => ⟨S_, .i32⟩
  | .hbm, ⟨80, _⟩ => ⟨S2, .i32⟩
  | .hbm, ⟨81, _⟩ => ⟨S2, .i32⟩
  | .hbm, ⟨82, _⟩ => ⟨S2, .f32⟩
  | .hbm, ⟨83, _⟩ => ⟨S1x2, .f32⟩
  | .hbm, ⟨84, _⟩ => ⟨S1x2, .f32⟩
  | .hbm, ⟨85, _⟩ => ⟨S1x2, .f32⟩
  | .hbm, ⟨86, _⟩ => ⟨S1x2, .f32⟩
  | .hbm, ⟨87, _⟩ => ⟨S4x2, .f32⟩
  | .hbm, ⟨88, _⟩ => ⟨S32x16x128, .f32⟩
  | .hbm, ⟨89, _⟩ => ⟨S32x2x128, .f32⟩
  | .hbm, ⟨90, _⟩ => ⟨S2x32x128, .f32⟩
  | .hbm, ⟨91, _⟩ => ⟨S32x2x128, .f32⟩
  | .hbm, ⟨92, _⟩ => ⟨S2x32x128, .f32⟩
  | .hbm, ⟨93, _⟩ => ⟨S32x2x16384x128, .fp8e4m3⟩
  | .hbm, ⟨94, _⟩ => ⟨S32x2x16384x128, .fp8e4m3⟩
  | .hbm, ⟨95, _⟩ => ⟨S32x16x128, .f32⟩
  | .hbm, ⟨96, _⟩ => ⟨S2x32x128, .fp8e4m3⟩
  | .hbm, ⟨97, _⟩ => ⟨S2x32x128, .fp8e4m3⟩
  | .hbm, ⟨98, _⟩ => ⟨S32x1x2048, .f32⟩
  | .hbm, ⟨99, _⟩ => ⟨S32x2x128, .fp8e4m3⟩
  | .hbm, ⟨100, _⟩ => ⟨S32x1x2x128, .fp8e4m3⟩
  | .hbm, ⟨101, _⟩ => ⟨S32x2x128, .fp8e4m3⟩
  | .hbm, ⟨102, _⟩ => ⟨S32x1x2x128, .fp8e4m3⟩
  | .local _ .vmem, ⟨0, _⟩ => ⟨S1x16x128, .f32⟩
  | .local _ .vmem, ⟨1, _⟩ => ⟨S1x16x128, .f32⟩
  | .local _ .vmem, ⟨2, _⟩ => ⟨S2x32x128, .f32⟩
  | .local _ .vmem, ⟨3, _⟩ => ⟨S2x32x128, .f32⟩
  | .local _ .vmem, ⟨4, _⟩ => ⟨S1x2x4096x128, .fp8e4m3⟩
  | .local _ .vmem, ⟨5, _⟩ => ⟨S1x2x4096x128, .fp8e4m3⟩
  | .local _ .vmem, ⟨6, _⟩ => ⟨S1x2x4096x128, .fp8e4m3⟩
  | .local _ .vmem, ⟨7, _⟩ => ⟨S1x2x4096x128, .fp8e4m3⟩
  | .local _ .vmem, ⟨8, _⟩ => ⟨S1x16x128, .f32⟩
  | .local _ .vmem, ⟨9, _⟩ => ⟨S1x16x128, .f32⟩
  | .local _ .vmem, ⟨10, _⟩ => ⟨S2x32x128, .fp8e4m3⟩
  | .local _ .vmem, ⟨11, _⟩ => ⟨S2x32x128, .fp8e4m3⟩
  | .local _ .vmem, ⟨12, _⟩ => ⟨S2x32x128, .f32⟩
  | .local _ .vmem, ⟨13, _⟩ => ⟨S2x32x128, .f32⟩
  | .local _ .vmem, ⟨14, _⟩ => ⟨S16x1, .f32⟩
  | .local _ .vmem, ⟨15, _⟩ => ⟨S16x1, .f32⟩
  | .local _ .vmem, ⟨16, _⟩ => ⟨S16x256, .f32⟩
  | .local _ .smem, ⟨0, _⟩ => ⟨S4x2, .f32⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_call0_v0 : Ref sig .tc := ⟨.hbm, 35, rfl⟩
abbrev main_call0_v1 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_c_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_8 : Ref sig .tc := ⟨.hbm, 46, rfl⟩
abbrev main_v28 : Ref sig .tc := ⟨.hbm, 47, rfl⟩
abbrev main_v29 : Ref sig .tc := ⟨.hbm, 48, rfl⟩
abbrev main_c_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_10 : Ref sig .tc := ⟨.hbm, 60, rfl⟩
abbrev main_v40 : Ref sig .tc := ⟨.hbm, 61, rfl⟩
abbrev main_c_11 : Ref sig .tc := ⟨.hbm, 62, rfl⟩
abbrev main_v41 : Ref sig .tc := ⟨.hbm, 63, rfl⟩
abbrev main_v42 : Ref sig .tc := ⟨.hbm, 64, rfl⟩
abbrev main_c_12 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_13 : Ref sig .tc := ⟨.hbm, 69, rfl⟩
abbrev main_v46 : Ref sig .tc := ⟨.hbm, 70, rfl⟩
abbrev main_v47 : Ref sig .tc := ⟨.hbm, 71, rfl⟩
abbrev main_c_14 : Ref sig .tc := ⟨.hbm, 72, rfl⟩
abbrev main_call1_v0 : Ref sig .tc := ⟨.hbm, 73, rfl⟩
abbrev main_call1_v1 : Ref sig .tc := ⟨.hbm, 74, rfl⟩
abbrev main_v48 : Ref sig .tc := ⟨.hbm, 75, rfl⟩
abbrev main_c_15 : Ref sig .tc := ⟨.hbm, 76, rfl⟩
abbrev main_v49 : Ref sig .tc := ⟨.hbm, 77, rfl⟩
abbrev main_v50 : Ref sig .tc := ⟨.hbm, 78, rfl⟩
abbrev main_c_16 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66_0 : Ref sig .tc := ⟨.hbm, 95, rfl⟩
abbrev main_v66_1 : Ref sig .tc := ⟨.hbm, 96, rfl⟩
abbrev main_v66_2 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨2, ![32, 4], ![false, false]⟩

def k0_cond3 (i : grid0.Coords) : BitVec 1 :=
  let arg1 : BitVec 32 := BitVec.ofNat 32 (i 1).val
  let c3_i32 : BitVec 32 := 3#32
  let v86 : BitVec 1 := Scalar.cmpi .eq arg1 c3_i32
  let v87 : BitVec 32 := Scalar.extui v86
  let c0_i32_47 : BitVec 32 := 0#32
  let v88 : BitVec 1 := Scalar.cmpi .ne v87 c0_i32_47
  v88

def k0_off1 (i : grid0.Coords) : Fin 3 → Nat :=
  let c0_48 : Index := 0#32
  let arg0 : BitVec 32 := BitVec.ofNat 32 (i 0).val
  let v89 : Index := Scalar.indexCast arg0
  let c0_49 : Index := 0#32
  ![0, v89.toNat, 0]
def k0_off2 (i : grid0.Coords) : Fin 3 → Nat :=
  let c1_50 : Index := 1#32
  let arg0 : BitVec 32 := BitVec.ofNat 32 (i 0).val
  let v92 : Index := Scalar.indexCast arg0
  let c0_51 : Index := 0#32
  ![1, v92.toNat, 0]
def k0_cond1 (i : grid0.Coords) : BitVec 1 :=
  let arg0 : BitVec 32 := BitVec.ofNat 32 (i 0).val
  let c0_i32 : BitVec 32 := 0#32
  let v4 : BitVec 1 := Scalar.cmpi .eq arg0 c0_i32
  let arg1 : BitVec 32 := BitVec.ofNat 32 (i 1).val
  let c0_i32_6 : BitVec 32 := 0#32
  let v5 : BitVec 1 := Scalar.cmpi .eq arg1 c0_i32_6
  let v6 : BitVec 1 := Scalar.andi v4 v5
  let v7 : BitVec 32 := Scalar.extui v6
  let c0_i32_7 : BitVec 32 := 0#32
  let v8 : BitVec 1 := Scalar.cmpi .ne v7 c0_i32_7
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S4x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2x32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2x4096x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x4096x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2x32x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2x32x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S32x1x2048 : Shape := ⟨3, ![32, 1, 2048]⟩
abbrev S32x1x2x128 : Shape := ⟨4, ![32, 1, 2, 128]⟩
abbrev S32x16384x2x128 : Shape := ⟨4, ![32, 16384, 2, 128]⟩
abbrev S2 : Shape := ⟨1, ![2]⟩
abbrev S255 : Shape := ⟨1, ![255]⟩
abbrev S_ : Shape := ⟨0, ![]⟩
abbrev S2x1 : Shape := ⟨2, ![2, 1]⟩
abbrev S1x255 : Shape := ⟨2, ![1, 255]⟩
abbrev S2x255 : Shape := ⟨2, ![2, 255]⟩
abbrev S1x1x2x1 : Shape := ⟨4, ![1, 1, 2, 1]⟩
abbrev S32x1x2x8x128 : Shape := ⟨5, ![32, 1, 2, 8, 128]⟩
abbrev S1x1 : Shape := ⟨2, ![1, 1]⟩
abbrev S32x2x16384x1x8 : Shape := ⟨5, ![32, 2, 16384, 1, 8]⟩
abbrev S32x2x8x1x16384 : Shape := ⟨5, ![32, 2, 8, 1, 16384]⟩
abbrev S32x2x1x1x8 : Shape := ⟨5, ![32, 2, 1, 1, 8]⟩
abbrev S32x2x8x1x1 : Shape := ⟨5, ![32, 2, 8, 1, 1]⟩
abbrev S32x2x8x1 : Shape := ⟨4, ![32, 2, 8, 1]⟩
abbrev S32x2x8x1x128 : Shape := ⟨5, ![32, 2, 8, 1, 128]⟩

abbrev nBuf : Space → Nat
  | .hbm => 188
  | .vmem => 10
  | .smem => 0
  | _ => 0

abbrev hbmTy0_0 (i : Nat) : BufTy := match i % 128 with
  | 0 => ⟨S32x1x2048, .f32⟩
  | 1 => ⟨S32x1x2x128, .f32⟩
  | 2 => ⟨S32x1x2x128, .f32⟩
  | 3 => ⟨S32x16384x2x128, .fp8e4m3⟩
  | 4 => ⟨S2, .f32⟩
  | 5 => ⟨S32x16384x2x128, .fp8e4m3⟩
  | 6 => ⟨S2, .f32⟩
  | 7 => ⟨S255, .i32⟩
  | 8 => ⟨S_, .i32⟩
  | 9 => ⟨S255, .i32⟩
  | 10 => ⟨S255, .i32⟩
  | 11 => ⟨S_, .i32⟩
  | 12 => ⟨S255, .i32⟩
  | 13 => ⟨S255, .i32⟩
  | 14 => ⟨S255, .f32⟩
  | 15 => ⟨S2, .f32⟩
  | 16 => ⟨S2x1, .f32⟩
  | 17 => ⟨S1x255, .f32⟩
  | 18 => ⟨S2x255, .f32⟩
  | 19 => ⟨S2x255, .f32⟩
  | 20 => ⟨S2x255, .i1⟩
  | 21 => ⟨S2x255, .i32⟩
  | 22 => ⟨S_, .i32⟩
  | 23 => ⟨S2, .i32⟩
  | 24 => ⟨S_, .i32⟩
  | 25 => ⟨S2, .i32⟩
  | 26 => ⟨S2, .i1⟩
  | 27 => ⟨S_, .i32⟩
  | 28 => ⟨S2, .i32⟩
  | 29 => ⟨S2, .i1⟩
  | 30 => ⟨S2, .i1⟩
  | 31 => ⟨S_, .i32⟩
  | 32 => ⟨S2, .i32⟩
  | 33 => ⟨S2, .i32⟩
  | 34 => ⟨S_, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .f32⟩
  | 45 => ⟨S2x1, .f32⟩
  | 46 => ⟨S1x1x2x1, .f32⟩
  | 47 => ⟨S32x1x2x128, .f32⟩
  | 48 => ⟨S32x1x2x128, .f32⟩
  | 49 => ⟨S_, .f32⟩
  | 50 => ⟨S_, .f32⟩
  | 51 => ⟨S_, .f32⟩
  | 52 => ⟨S32x1x2x128, .f32⟩
  | 53 => ⟨S32x1x2x128, .f32⟩
  | 54 => ⟨S_, .f32⟩
  | 55 => ⟨S32x1x2x128, .f32⟩
  | 56 => ⟨S32x1x2x128, .f32⟩
  | 57 => ⟨S255, .i32⟩
  | 58 => ⟨S_, .i32⟩
  | 59 => ⟨S255, .i32⟩
  | 60 => ⟨S255, .i32⟩
  | 61 => ⟨S_, .i32⟩
  | 62 => ⟨S255, .i32⟩
  | 63 => ⟨S255, .i32⟩
  | 64 => ⟨S255, .f32⟩
  | 65 => ⟨S2, .f32⟩
  | 66 => ⟨S2x1, .f32⟩
  | 67 => ⟨S1x255, .f32⟩
  | 68 => ⟨S2x255, .f32⟩
  | 69 => ⟨S2x255, .f32⟩
  | 70 => ⟨S2x255, .i1⟩
  | 71 => ⟨S2x255, .i32⟩
  | 72 => ⟨S_, .i32⟩
  | 73 => ⟨S2, .i32⟩
  | 74 => ⟨S_, .i32⟩
  | 75 => ⟨S2, .i32⟩
  | 76 => ⟨S2, .i1⟩
  | 77 => ⟨S_, .i32⟩
  | 78 => ⟨S2, .i32⟩
  | 79 => ⟨S2, .i1⟩
  | 80 => ⟨S2, .i1⟩
  | 81 => ⟨S_, .i32⟩
  | 82 => ⟨S2, .i32⟩
  | 83 => ⟨S2, .i32⟩
  | 84 => ⟨S_, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .f32⟩
  | 95 => ⟨S2x1, .f32⟩
  | 96 => ⟨S1x1x2x1, .f32⟩
  | 97 => ⟨S32x1x2x128, .f32⟩
  | 98 => ⟨S32x1x2x128, .f32⟩
  | 99 => ⟨S_, .f32⟩
  | 100 => ⟨S_, .f32⟩
  | 101 => ⟨S_, .f32⟩
  | 102 => ⟨S32x1x2x128, .f32⟩
  | 103 => ⟨S32x1x2x128, .f32⟩
  | 104 => ⟨S_, .f32⟩
  | 105 => ⟨S32x1x2x128, .f32⟩
  | 106 => ⟨S32x1x2x128, .f32⟩
  | 107 => ⟨S32x1x2x128, .fp8e4m3⟩
  | 108 => ⟨S32x1x2x128, .fp8e4m3⟩
  | 109 => ⟨S32x1x2x128, .bf16⟩
  | 110 => ⟨S32x1x2x128, .bf16⟩
  | 111 => ⟨S32x16384x2x128, .bf16⟩
  | 112 => ⟨S32x16384x2x128, .bf16⟩
  | 113 => ⟨S2, .bf16⟩
  | 114 => ⟨S2x1, .bf16⟩
  | 115 => ⟨S1x1x2x1, .bf16⟩
  | 116 => ⟨S32x1x2x128, .bf16⟩
  | 117 => ⟨S32x1x2x128, .bf16⟩
  | 118 => ⟨S2, .bf16⟩
  | 119 => ⟨S2x1, .bf16⟩
  | 120 => ⟨S1x1x2x1, .bf16⟩
  | 121 => ⟨S32x1x2x128, .bf16⟩
  | 122 => ⟨S32x1x2x128, .bf16⟩
  | 123 => ⟨S2, .bf16⟩
  | 124 => ⟨S2x1, .bf16⟩
  | 125 => ⟨S1x1x2x1, .bf16⟩
  | 126 => ⟨S32x16384x2x128, .bf16⟩
  | 127 => ⟨S32x16384x2x128, .bf16⟩
  | _ => ⟨S32x1x2048, .f32⟩

abbrev hbmTy0_1 (i : Nat) : BufTy := match i % 128 with
  | 0 => ⟨S2, .bf16⟩
  | 1 => ⟨S2x1, .bf16⟩
  | 2 => ⟨S1x1x2x1, .bf16⟩
  | 3 => ⟨S32x16384x2x128, .bf16⟩
  | 4 => ⟨S32x16384x2x128, .bf16⟩
  | 5 => ⟨S32x1x2x8x128, .f32⟩
  | 6 => ⟨S32x1x2x8x128, .bf16⟩
  | 7 => ⟨S_, .i1⟩
  | 8 => ⟨S1x1, .i1⟩
  | 9 => ⟨S1x1, .i32⟩
  | 10 => ⟨S_, .i32⟩
  | 11 => ⟨S1x1, .i32⟩
  | 12 => ⟨S1x1, .i32⟩
  | 13 => ⟨S1x1, .i32⟩
  | 14 => ⟨S1x1, .i1⟩
  | 15 => ⟨S_, .i1⟩
  | 16 => ⟨S1x1, .i1⟩
  | 17 => ⟨S1x1, .i1⟩
  | 18 => ⟨S32x2x16384x1x8, .f32⟩
  | 19 => ⟨S32x2x8x1x16384, .f32⟩
  | 20 => ⟨S_, .f32⟩
  | 21 => ⟨S32x2x8x1x16384, .f32⟩
  | 22 => ⟨S32x2x8x1x16384, .f32⟩
  | 23 => ⟨S32x2x1x1x8, .f32⟩
  | 24 => ⟨S32x2x8x1x1, .f32⟩
  | 25 => ⟨S_, .f32⟩
  | 26 => ⟨S32x2x8x1x1, .f32⟩
  | 27 => ⟨S32x2x8x1x1, .f32⟩
  | 28 => ⟨S_, .f32⟩
  | 29 => ⟨S_, .f32⟩
  | 30 => ⟨S32x2x8x1x1, .i1⟩
  | 31 => ⟨S32x2x8x1x1, .f32⟩
  | 32 => ⟨S32x2x8x1x1, .f32⟩
  | 33 => ⟨S_, .f32⟩
  | 34 => ⟨S32x2x8x1, .f32⟩
  | 35 => ⟨S_, .f32⟩
  | 36 => ⟨S32x2x8x1, .f32⟩
  | 37 => ⟨S32x2x8x1, .f32⟩
  | 38 => ⟨S32x2x8x1x1, .f32⟩
  | 39 => ⟨S32x2x8x1x16384, .f32⟩
  | 40 => ⟨S32x2x8x1x16384, .f32⟩
  | 41 => ⟨S32x2x8x1x16384, .f32⟩
  | 42 => ⟨S32x2x8x1x1, .f32⟩
  | 43 => ⟨S32x2x8x1x1, .f32⟩
  | 44 => ⟨S32x2x8x1x1, .f32⟩
  | 45 => ⟨S32x2x8x1x16384, .bf16⟩
  | 46 => ⟨S32x2x8x1x128, .f32⟩
  | 47 => ⟨S32x2x8x1x1, .bf16⟩
  | 48 => ⟨S32x2x8x1x128, .f32⟩
  | 49 => ⟨S32x2x8x1x128, .f32⟩
  | 50 => ⟨S_, .f32⟩
  | 51 => ⟨S32x2x8x1, .f32⟩
  | 52 => ⟨S_, .f32⟩
  | 53 => ⟨S32x2x8x1, .f32⟩
  | 54 => ⟨S32x2x8x1, .f32⟩
  | 55 => ⟨S32x2x8x1x1, .f32⟩
  | 56 => ⟨S32x2x8x1x128, .f32⟩
  | 57 => ⟨S32x2x8x1x128, .f32⟩
  | 58 => ⟨S32x1x2x8x128, .f32⟩
  | 59 => ⟨S32x1x2048, .f32⟩
  | _ => ⟨S32x1x2048, .f32⟩

abbrev hbmTy (i : Nat) : BufTy := match i / 128 with
  | 0 => hbmTy0_0 i
  | 1 => hbmTy0_1 i
  | _ => ⟨S32x1x2048, .f32⟩

abbrev bufTy : (tb : Table) → Fin (tcTables nBuf tb) → BufTy
  | .hbm, ⟨i, _⟩ => hbmTy i
  | .local _ .vmem, ⟨0, _⟩ => ⟨S32x1x2x128, .f32⟩
  | .local _ .vmem, ⟨1, _⟩ => ⟨S32x1x2x128, .f32⟩
  | .local _ .vmem, ⟨2, _⟩ => ⟨S32x16384x2x128, .fp8e4m3⟩
  | .local _ .vmem, ⟨3, _⟩ => ⟨S32x16384x2x128, .fp8e4m3⟩
  | .local _ .vmem, ⟨4, _⟩ => ⟨S32x1x2x128, .fp8e4m3⟩
  | .local _ .vmem, ⟨5, _⟩ => ⟨S32x1x2x128, .fp8e4m3⟩
  | .local _ .vmem, ⟨6, _⟩ => ⟨S32x1x2x128, .bf16⟩
  | .local _ .vmem, ⟨7, _⟩ => ⟨S32x1x2x128, .bf16⟩
  | .local _ .vmem, ⟨8, _⟩ => ⟨S32x16384x2x128, .bf16⟩
  | .local _ .vmem, ⟨9, _⟩ => ⟨S32x16384x2x128, .bf16⟩
  | _, _ => ⟨S32x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_call0_v0 : Ref sig .tc := ⟨.hbm, 35, rfl⟩
abbrev main_call0_v1 : Ref sig .tc := ⟨.hbm, 36, rfl⟩
abbrev main_v21 : Ref sig .tc := ⟨.hbm, 37, rfl⟩
abbrev main_c_6 : Ref sig .tc := ⟨.hbm, 38, rfl⟩
abbrev main_v22 : Ref sig .tc := ⟨.hbm, 39, rfl⟩
abbrev main_v23 : Ref sig .tc := ⟨.hbm, 40, rfl⟩
abbrev main_c_7 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst : Ref sig .tc := ⟨.hbm, 49, rfl⟩
abbrev main_cst_8 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v31 : Ref sig .tc := ⟨.hbm, 56, rfl⟩
abbrev main_v32 : Ref sig .tc := ⟨.hbm, 57, rfl⟩
abbrev main_c_9 : Ref sig .tc := ⟨.hbm, 58, rfl⟩
abbrev main_v33 : Ref sig .tc := ⟨.hbm, 59, rfl⟩
abbrev main_v34 : Ref sig .tc := ⟨.hbm, 60, rfl⟩
abbrev main_c_10 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_11 : Ref sig .tc := ⟨.hbm, 72, rfl⟩
abbrev main_v45 : Ref sig .tc := ⟨.hbm, 73, rfl⟩
abbrev main_c_12 : Ref sig .tc := ⟨.hbm, 74, rfl⟩
abbrev main_v46 : Ref sig .tc := ⟨.hbm, 75, rfl⟩
abbrev main_v47 : Ref sig .tc := ⟨.hbm, 76, rfl⟩
abbrev main_c_13 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_14 : Ref sig .tc := ⟨.hbm, 81, rfl⟩
abbrev main_v51 : Ref sig .tc := ⟨.hbm, 82, rfl⟩
abbrev main_v52 : Ref sig .tc := ⟨.hbm, 83, rfl⟩
abbrev main_c_15 : Ref sig .tc := ⟨.hbm, 84, rfl⟩
abbrev main_call2_v0 : Ref sig .tc := ⟨.hbm, 85, rfl⟩
abbrev main_call2_v1 : Ref sig .tc := ⟨.hbm, 86, rfl⟩
abbrev main_v53 : Ref sig .tc := ⟨.hbm, 87, rfl⟩
abbrev main_c_16 : Ref sig .tc := ⟨.hbm, 88, rfl⟩
abbrev main_v54 : Ref sig .tc := ⟨.hbm, 89, rfl⟩
abbrev main_v55 : Ref sig .tc := ⟨.hbm, 90, rfl⟩
abbrev main_c_17 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_18 : Ref sig .tc := ⟨.hbm, 99, rfl⟩
abbrev main_cst_19 : Ref sig .tc := ⟨.hbm, 100, rfl⟩
abbrev main_call3_v0 : Ref sig .tc := ⟨.hbm, 101, rfl⟩
abbrev main_call3_v1 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_v63 : Ref sig .tc := ⟨.hbm, 106, rfl⟩
abbrev main_v64_0 : Ref sig .tc := ⟨.hbm, 107, rfl⟩
abbrev main_v64_1 : Ref sig .tc := ⟨.hbm, 108, rfl⟩
abbrev main_v64_2 : Ref sig .tc := ⟨.hbm, 109, rfl⟩
abbrev main_v64_3 : Ref sig .tc := ⟨.hbm, 110, rfl⟩
abbrev main_v64_4 : Ref sig .tc := ⟨.hbm, 111, rfl⟩
abbrev main_v64_5 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_c_20 : Ref sig .tc := ⟨.hbm, 135, rfl⟩
abbrev main_v87 : Ref sig .tc := ⟨.hbm, 136, rfl⟩
abbrev main_call4_v0 : Ref sig .tc := ⟨.hbm, 137, rfl⟩
abbrev main_call4_c : Ref sig .tc := ⟨.hbm, 138, rfl⟩
abbrev main_call4_v1 : Ref sig .tc := ⟨.hbm, 139, rfl⟩
abbrev main_call4_v2 : Ref sig .tc := ⟨.hbm, 140, rfl⟩
abbrev main_call4_v3 : Ref sig .tc := ⟨.hbm, 141, rfl⟩
abbrev main_call4_v4 : Ref sig .tc := ⟨.hbm, 142, rfl⟩
abbrev main_call4_c_0 : Ref sig .tc := ⟨.hbm, 143, rfl⟩
abbrev main_call4_v5 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_cst_21 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_cst_22 : Ref sig .tc := ⟨.hbm, 153, rfl⟩
abbrev main_v95 : Ref sig .tc := ⟨.hbm, 154, rfl⟩
abbrev main_v96 : Ref sig .tc := ⟨.hbm, 155, rfl⟩
abbrev main_cst_23 : Ref sig .tc := ⟨.hbm, 156, rfl⟩
abbrev main_call5_v0 : Ref sig .tc := ⟨.hbm, 157, rfl⟩
abbrev main_call5_v1 : Ref sig .tc := ⟨.hbm, 158, rfl⟩
abbrev main_call5_v2 : Ref sig .tc := ⟨.hbm, 159, rfl⟩
abbrev main_v97 : Ref sig .tc := ⟨.hbm, 160, rfl⟩
abbrev main_cst_24 : Ref sig .tc := ⟨.hbm, 161, rfl⟩
abbrev main_v98 : Ref sig .tc := ⟨.hbm, 162, rfl⟩
abbrev main_cst_25 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_cst_26 : Ref sig .tc := ⟨.hbm, 178, rfl⟩
abbrev main_v113 : Ref sig .tc := ⟨.hbm, 179, rfl⟩
abbrev main_cst_27 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S32x1x2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x16384x2x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16384x2x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1x2x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1x2x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1x2x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1x2x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16384x2x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x16384x2x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KShared.lean ====
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 128 = 0 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 128 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_1 : ∀ t : Fin cfg0.N, cond0_1 (grid0.coords t) ↔ t.val % 4 = 0 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [cond0_1, e0, e1]
    word_cmp
   : ∀ t : Fin grid0.N, cond0_1 (grid0.coords t) ↔ t.val % 4 = 0)

/-- The condition of the body's `scf.if` 2 (`k0_h3`), from the grid coordinates (the skeleton's scalar
    chain substituted). -/
abbrev cond0_2 (i : grid0.Coords) : Prop := k0_cond3 i = 1#1
/-- It holds at the points ≡ 3 (mod 4) — by arithmetic of the point. -/
theorem hcond0_2 : ∀ t : Fin cfg0.N, cond0_2 (grid0.coords t) ↔ t.val % 4 = 3 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [cond0_2, k0_cond3, e0, e1]
    word_cmp
   : ∀ t : Fin grid0.N, cond0_2 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- At the points of case A the printed configuration (`Cfg.idle`) calls output 6 idle: the case stores nothing into it. -/
theorem idleAt0_6_A : ∀ t : Fin cfg0.N, cond0_0 (grid0.coords t) → cond0_1 (grid0.coords t) → ¬cond0_2 (grid0.coords t) → cfg0.idle 6 (grid0.coords t) = true := by decide +kernel
/-- At the points of case A the pipeline does not write output 6's block back. -/
theorem noFlush0_6_A : ∀ t : Fin cfg0.N, cond0_0 (grid0.coords t) → cond0_1 (grid0.coords t) → ¬cond0_2 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → ¬cond0_2 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → ¬cond0_2 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → ¬cond0_1 (grid0.coords t) → cond0_2 (grid0.coords t) → cfg0.idle 6 (grid0.coords t) = false := by decide +kernel
/-- At the points of case D the printed configuration (`Cfg.idle`) calls output 6 idle: the case stores nothing into it. -/
theorem idleAt0_6_D : ∀ t : Fin cfg0.N, ¬cond0_0 (grid0.coords t) → cond0_1 (grid0.coords t) → ¬cond0_2 (grid0.coords t) → cfg0.idle 6 (grid0.coords t) = true := by decide +kernel
/-- At the points of case D the pipeline does not write output 6's block back. -/
theorem noFlush0_6_D : ∀ t : Fin cfg0.N, ¬cond0_0 (grid0.coords t) → cond0_1 (grid0.coords t) → ¬cond0_2 (grid0.coords t) → (cfg0.win 6).flush t = false := by decide +kernel

/-- Outputs 7 and 8 are idle at every point but the first, -/
theorem idleAt0_7 : ∀ t : Fin cfg0.N, ¬cond0_0 (grid0.coords t) → cfg0.idle 7 (grid0.coords t) = true := by decide +kernel
theorem idleAt0_8 : ∀ t : Fin cfg0.N, ¬cond0_0 (grid0.coords t) → cfg0.idle 8 (grid0.coords t) = true := by decide +kernel
/-- and live at the first. -/
theorem liveAt0_7_A : ∀ t : Fin cfg0.N, cond0_0 (grid0.coords t) → cfg0.idle 7 (grid0.coords t) = false := by decide +kernel
theorem liveAt0_8_A : ∀ t : Fin cfg0.N, cond0_0 (grid0.coords t) → cfg0.idle 8 (grid0.coords t) = false := by decide +kernel
/-- Outputs 7 and 8 are written back after the last point only. -/
theorem flush0_7 : ∀ t : Fin cfg0.N, (cfg0.win 7).flush t = (t.val == 127) := by decide +kernel
theorem flush0_8 : ∀ t : Fin cfg0.N, (cfg0.win 8).flush t = (t.val == 127) := by decide +kernel

/-! ## The memrefs the body is called with -/

/-- Each window's current staging memref at point `t`, spelled as the pipeline passes it (`bodyAt0`), and its wholeness. -/
abbrev ms0_0 (t : Fin cfg0.N) : Memref sig .tc .smem S4x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x32x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x32x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x4096x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x4096x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x32x128 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x32x128 .fp8e4m3 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S2x32x128 .f32 := Memref.whole cc0_scratch0
abbrev scM0_1 : Memref sig .tc .vmem S2x32x128 .f32 := Memref.whole cc0_scratch1
abbrev scM0_2 : Memref sig .tc .vmem S16x1 .f32 := Memref.whole cc0_scratch2
abbrev scM0_3 : Memref sig .tc .vmem S16x1 .f32 := Memref.whole cc0_scratch3
abbrev scM0_4 : Memref sig .tc .vmem S16x256 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.KBody.lean ====
module

public import proofs.«01_k».proof.Proof.KShared
public import Idealize.ShloMosaic.Lib.Pipeline.Value
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What the body computes, as functions of the contents it finds

The body's payloads (`k0_pay…`) put together as functions of what its buffers hold: `x0` the scale table, `x1` the
query block, `x2`, `x3` the new keys and values, `x4`, `x5` a block of the two caches; `kw`, `vw` the widened new keys
and values, `mx`, `sm`, `ac` the running maximum, sum and weighted sum. -/

/-- The scale table's words: row 0 the key scales, 1 the value scales, 2 and 3 their inverses; a column per head. -/
def w00 (x0 : Vec F S4x2 .f32) : Elt F .f32 := View.ld x0 (Rect.unit ![0, 0] ![1, 1] inb_S4x2_S1x1_0_0) (Shape.Idx.first (numel1_S1x1.symm ▸ Nat.one_pos))
def w01 (x0 : Vec F S4x2 .f32) : Elt F .f32 := View.ld x0 (Rect.unit ![0, 1] ![1, 1] inb_S4x2_S1x1_0_1) (Shape.Idx.first (numel1_S1x1.symm ▸ Nat.one_pos))
def w10 (x0 : Vec F S4x2 .f32) : Elt F .f32 := View.ld x0 (Rect.unit ![1, 0] ![1, 1] inb_S4x2_S1x1_1_0) (Shape.Idx.first (numel1_S1x1.symm ▸ Nat.one_pos))
def w11 (x0 : Vec F S4x2 .f32) : Elt F .f32 := View.ld x0 (Rect.unit ![1, 1] ![1, 1] inb_S4x2_S1x1_1_1) (Shape.Idx.first (numel1_S1x1.symm ▸ Nat.one_pos))
def w20 (x0 : Vec F S4x2 .f32) : Elt F .f32 := View.ld x0 (Rect.unit ![2, 0] ![1, 1] inb_S4x2_S1x1_2_0) (Shape.Idx.first (numel1_S1x1.symm ▸ Nat.one_pos))
def w21 (x0 : Vec F S4x2 .f32) : Elt F .f32 := View.ld x0 (Rect.unit ![2, 1] ![1, 1] inb_S4x2_S1x1_2_1) (Shape.Idx.first (numel1_S1x1.symm ▸ Nat.one_pos))
def w30 (x0 : Vec F S4x2 .f32) : Elt F .f32 := View.ld x0 (Rect.unit ![3, 0] ![1, 1] inb_S4x2_S1x1_3_0) (Shape.Idx.first (numel1_S1x1.symm ▸ Nat.one_pos))
def w31 (x0 : Vec F S4x2 .f32) : Elt F .f32 := View.ld x0 (Rect.unit ![3, 1] ![1, 1] inb_S4x2_S1x1_3_1) (Shape.Idx.first (numel1_S1x1.symm ▸ Nat.one_pos))

/-- One head's rows of a cache block. -/
def hd0 (x : Vec F S1x2x4096x128 .fp8e4m3) : Vec F S1x1x4096x128 .fp8e4m3 := View.ld x (Rect.unit ![0, 0, 0, 0] ![1, 1, 4096, 128] inb_S1x2x4096x128_S1x1x4096x128_0_0_0_0)
def hd1 (x : Vec F S1x2x4096x128 .fp8e4m3) : Vec F S1x1x4096x128 .fp8e4m3 := View.ld x (Rect.unit ![0, 1, 0, 0] ![1, 1, 4096, 128] inb_S1x2x4096x128_S1x1x4096x128_0_1_0_0)

/-- One head's rows of the new keys or values. -/
def nh0 (x : Vec F S2x32x128 .f32) : Vec F S1x32x128 .f32 := View.ld x (Rect.unit ![0, 0, 0] ![1, 32, 128] inb_S2x32x128_S1x32x128_0_0_0)
def nh1 (x : Vec F S2x32x128 .f32) : Vec F S1x32x128 .f32 := View.ld x (Rect.unit ![1, 0, 0] ![1, 32, 128] inb_S2x32x128_S1x32x128_1_0_0)

/-- The new keys' codes (clipped, rounded to eight bits), both heads. -/
def kCodes (x0 : Vec F S4x2 .f32) (x2 : Vec F S2x32x128 .f32) : Vec F S2x32x128 .fp8e4m3 :=
  View.canon [⟨Rect.unit ![1, 0, 0] ![1, 32, 128] inb_S2x32x128_S1x32x128_1_0_0, k0_pay13 (nh1 x2) (w21 x0)⟩,
    ⟨Rect.unit ![0, 0, 0] ![1, 32, 128] inb_S2x32x128_S1x32x128_0_0_0, k0_pay7 (nh0 x2) (w20 x0)⟩]
/-- The new values' codes. -/
def vCodes (x0 : Vec F S4x2 .f32) (x3 : Vec F S2x32x128 .f32) : Vec F S2x32x128 .fp8e4m3 :=
  View.canon [⟨Rect.unit ![1, 0, 0] ![1, 32, 128] inb_S2x32x128_S1x32x128_1_0_0, k0_pay20 (k0_pay12 (nh1 x3) (w31 x0))⟩,
    ⟨Rect.unit ![0, 0, 0] ![1, 32, 128] inb_S2x32x128_S1x32x128_0_0_0, k0_pay8 (nh0 x3) (w30 x0)⟩]
/-- The new keys read back from their codes. -/
def kWide (x0 : Vec F S4x2 .f32) (x2 : Vec F S2x32x128 .f32) : Vec F S2x32x128 .f32 :=
  View.canon [⟨Rect.unit ![1, 0, 0] ![1, 32, 128] inb_S2x32x128_S1x32x128_1_0_0, k0_pay21 (w01 x0) (k0_pay11 (nh1 x2) (w21 x0))⟩,
    ⟨Rect.unit ![0, 0, 0] ![1, 32, 128] inb_S2x32x128_S1x32x128_0_0_0, k0_pay9 (w00 x0) (nh0 x2) (w20 x0)⟩]
/-- The new values read back from their codes. -/
def vWide (x0 : Vec F S4x2 .f32) (x3 : Vec F S2x32x128 .f32) : Vec F S2x32x128 .f32 :=
  View.canon [⟨Rect.unit ![1, 0, 0] ![1, 32, 128] inb_S2x32x128_S1x32x128_1_0_0, k0_pay22 (w11 x0) (k0_pay12 (nh1 x3) (w31 x0))⟩,
    ⟨Rect.unit ![0, 0, 0] ![1, 32, 128] inb_S2x32x128_S1x32x128_0_0_0, k0_pay10 (w10 x0) (k0_pay6 (nh0 x3) (w30 x0))⟩]

/-- The running maximum after a block. -/
def mNext (x0 : Vec F S4x2 .f32) (x1 : Vec F S1x16x128 .f32) (x4 : Vec F S1x2x4096x128 .fp8e4m3) (mx : Vec F S16x1 .f32) : Vec F S16x1 .f32 :=
  k0_pay3 (k0_pay31 (w01 x0) (k0_pay27 x1) (k0_pay28 (w00 x0) (hd0 x4)) (hd1 x4) mx)
/-- The running sum after a block. -/
def sNext (x0 : Vec F S4x2 .f32) (x1 : Vec F S1x16x128 .f32) (x4 : Vec F S1x2x4096x128 .fp8e4m3) (mx sm : Vec F S16x1 .f32) : Vec F S16x1 .f32 :=
  k0_pay1 (k0_pay34 (w01 x0) (k0_pay27 x1) (k0_pay28 (w00 x0) (hd0 x4)) (hd1 x4) mx sm)
/-- The running weighted sum of value rows after a block. -/
def aNext (x0 : Vec F S4x2 .f32) (x1 : Vec F S1x16x128 .f32) (x4 x5 : Vec F S1x2x4096x128 .fp8e4m3) (mx : Vec F S16x1 .f32) (ac : Vec F S16x256 .f32) : Vec F S16x256 .f32 :=
  k0_pay2 (k0_pay29 (w10 x0) (w11 x0) (hd0 x5) (hd1 x5))
    (k0_pay32 (w01 x0) (k0_pay27 x1) (k0_pay28 (w00 x0) (hd0 x4)) (hd1 x4) mx)
    (k0_pay33 (w01 x0) (k0_pay27 x1) (k0_pay28 (w00 x0) (hd0 x4)) (hd1 x4) mx) ac

/-- The row of the batch entry at `i` of the widened new keys or values, per head. -/
def row0 (i : grid0.Coords) (h : k0_cond3 i = 1#1) (x : Vec F S2x32x128 .f32) : Vec F S1x1x128 .f32 :=
  View.ld x (Rect.unit (k0_off1 i) ![1, 1, 128] (k0_off1_inb i h))
def row1 (i : grid0.Coords) (h : k0_cond3 i = 1#1) (x : Vec F S2x32x128 .f32) : Vec F S1x1x128 .f32 :=
  View.ld x (Rect.unit (k0_off2 i) ![1, 1, 128] (k0_off2_inb i h))

/-- The result block: the running state with the new token added, the two halves merged, divided by the sum. -/
def yOut (i : grid0.Coords) (h : k0_cond3 i = 1#1) (x1 : Vec F S1x16x128 .f32) (kw vw : Vec F S2x32x128 .f32)
    (mx sm : Vec F S16x1 .f32) (ac : Vec F S16x256 .f32) : Vec F S1x16x128 .f32 :=
  k0_pay4 (iota .tc S16x128 32 [0] iota_S16x128_d0_w32) (k0_pay14 (row0 i h vw) (row1 i h vw))
    (k0_pay17 (k0_pay26 x1) (row0 i h kw) (row1 i h kw) mx)
    (k0_pay18 (k0_pay26 x1) (row0 i h kw) (row1 i h kw) mx)
    (k0_pay19 (k0_pay26 x1) (row0 i h kw) (row1 i h kw) mx sm) ac

/-! ## Whole-buffer loads and stores -/

/-- A whole load of a whole buffer reads what it holds. -/
theorem ld_16x1 (X : Vec F S16x1 .f32) (inb) : View.ld X (Rect.unit (s := S16x1) ![0, 0] ![16, 1] inb) = X :=
  View.ld_unit_zero (by funext a; fin_cases a <;> rfl) inb X
theorem ld_16x256 (X : Vec F S16x256 .f32) (inb) : View.ld X (Rect.unit (s := S16x256) ![0, 0] ![16, 256] inb) = X :=
  View.ld_unit_zero (by funext a; fin_cases a <;> rfl) inb X
theorem ld_1x16x128 (X : Vec F S1x16x128 .f32) (inb) : View.ld X (Rect.unit (s := S1x16x128) ![0, 0, 0] ![1, 16, 128] inb) = X :=
  View.ld_unit_zero (by funext a; fin_cases a <;> rfl) inb X
/-- A whole load after a whole store reads what was stored. -/
theorem cov_16x1 {sp : Space} (v : View sig .tc sp S16x1 .f32) (inb inb') (w : Vec F S16x1 .f32) (L : List (View.Piece (Elt F) S16x1 .f32)) :
    v.readCov ((⟨Rect.unit (s := S16x1) ![0, 0] ![16, 1] inb, w⟩ : View.Piece (Elt F) S16x1 .f32) :: L) (Rect.unit (s := S16x1) ![0, 0] ![16, 1] inb').toLoadRect = w :=
  View.readCov_full v inb' inb w L
theorem cov_16x256 {sp : Space} (v : View sig .tc sp S16x256 .f32) (inb inb') (w : Vec F S16x256 .f32) (L : List (View.Piece (Elt F) S16x256 .f32)) :
    v.readCov ((⟨Rect.unit (s := S16x256) ![0, 0] ![16, 256] inb, w⟩ : View.Piece (Elt F) S16x256 .f32) :: L) (Rect.unit (s := S16x256) ![0, 0] ![16, 256] inb').toLoadRect = w :=
  View.readCov_full v inb' inb w L

end Cert.KernelIdeal.Hand

end
-- ==== Proof.KRunA.lean ====
module

public import proofs.«01_k».proof.Proof.KBody

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- At the grid's first point the body also codes the new keys and values and reads them back. -/
theorem run_A (c : Dev nD) (i : grid0.Coords) (arg2 : Memref sig .tc .smem S4x2 .f32) (harg2 : arg2.IsWhole) (arg3 : Memref sig .tc .vmem S1x16x128 .f32) (harg3 : arg3.IsWhole) (arg4 : Memref sig .tc .vmem S2x32x128 .f32) (harg4 : arg4.IsWhole) (arg5 : Memref sig .tc .vmem S2x32x128 .f32) (harg5 : arg5.IsWhole) (arg6 : Memref sig .tc .vmem S1x2x4096x128 .fp8e4m3) (harg6 : arg6.IsWhole) (arg7 : Memref sig .tc .vmem S1x2x4096x128 .fp8e4m3) (harg7 : arg7.IsWhole) (arg8 : Memref sig .tc .vmem S1x16x128 .f32) (harg8 : arg8.IsWhole) (arg9 : Memref sig .tc .vmem S2x32x128 .fp8e4m3) (harg9 : arg9.IsWhole) (arg10 : Memref sig .tc .vmem S2x32x128 .fp8e4m3) (harg10 : arg10.IsWhole) (arg11 : Memref sig .tc .vmem S2x32x128 .f32) (harg11 : arg11.IsWhole) (arg12 : Memref sig .tc .vmem S2x32x128 .f32) (harg12 : arg12.IsWhole) (arg13 : Memref sig .tc .vmem S16x1 .f32) (harg13 : arg13.IsWhole) (arg14 : Memref sig .tc .vmem S16x1 .f32) (harg14 : arg14.IsWhole) (arg15 : Memref sig .tc .vmem S16x256 .f32) (harg15 : arg15.IsWhole)
    (hc0 : cond0_0 i) (hc1 : cond0_1 i) (hc2 : ¬cond0_2 i)
    (x0 : Vec F S4x2 .f32) (x1 : Vec F S1x16x128 .f32) (x2 : Vec F S2x32x128 .f32) (x3 : Vec F S2x32x128 .f32) (x4 : Vec F S1x2x4096x128 .fp8e4m3) (x5 : Vec F S1x2x4096x128 .fp8e4m3) (y : Vec F S1x16x128 .f32) (kc : Vec F S2x32x128 .fp8e4m3) (vc : Vec F S2x32x128 .fp8e4m3) (kw : Vec F S2x32x128 .f32) (vw : Vec F S2x32x128 .f32) (mx : Vec F S16x1 .f32) (sm : Vec F S16x1 .f32) (ac : Vec F S16x256 .f32)
    (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y ∗ owns (c : Thread nD τ) arg9 fullShare kc ∗ owns (c : Thread nD τ) arg10 fullShare vc ∗ owns (c : Thread nD τ) arg11 fullShare kw ∗ owns (c : Thread nD τ) arg12 fullShare vw ∗ owns (c : Thread nD τ) arg13 fullShare mx ∗ owns (c : Thread nD τ) arg14 fullShare sm ∗ owns (c : Thread nD τ) arg15 fullShare ac
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y ∗ owns (c : Thread nD τ) arg9 fullShare (kCodes x0 x2) ∗ owns (c : Thread nD τ) arg10 fullShare (vCodes x0 x3) ∗ owns (c : Thread nD τ) arg11 fullShare (kWide x0 x2) ∗ owns (c : Thread nD τ) arg12 fullShare (vWide x0 x3) ∗ owns (c : Thread nD τ) arg13 fullShare (mNext x0 x1 x4 (k0_pay23 (F := F))) ∗ owns (c : Thread nD τ) arg14 fullShare (sNext x0 x1 x4 (k0_pay23 (F := F)) (k0_pay24 (F := F))) ∗ owns (c : Thread nD τ) arg15 fullShare (aNext x0 x1 x4 x5 (k0_pay23 (F := F)) (k0_pay25 (F := F)))) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  simp only [k0_part4_eq_skeleton, k0_part1_eq_skeleton, k0_part2_eq_skeleton, k0_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc0 | sl_exact hc1 | sl_exact hc2)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; refine (View.read_writes_eq_canon _ _ _ ?_).trans ?_
    · exact View.cover_of_tiledL _ S1x32x128.size (by sl_kernel_rfl)
    sl_unfold_run_names; simp only [View.readAt_eq_ld, Memref.IsWhole.read_unread]; rfl
  isplitl [H10]
  · iexists _; isplitr; swap; · iexact H10
    ipureintro; refine (View.read_writes_eq_canon _ _ _ ?_).trans ?_
    · exact View.cover_of_tiledL _ S1x32x128.size (by sl_kernel_rfl)
    sl_unfold_run_names; simp only [View.readAt_eq_ld, Memref.IsWhole.read_unread]; rfl
  isplitl [H11]
  · iexists _; isplitr; swap; · iexact H11
    ipureintro; refine (View.read_writes_eq_canon _ _ _ ?_).trans ?_
    · exact View.cover_of_tiledL _ S1x32x128.size (by sl_kernel_rfl)
    sl_unfold_run_names; simp only [View.readAt_eq_ld, Memref.IsWhole.read_unread]; rfl
  isplitl [H12]
  · iexists _; isplitr; swap; · iexact H12
    ipureintro; refine (View.read_writes_eq_canon _ _ _ ?_).trans ?_
    · exact View.cover_of_tiledL _ S1x32x128.size (by sl_kernel_rfl)
    sl_unfold_run_names; simp only [View.readAt_eq_ld, Memref.IsWhole.read_unread]; rfl
  isplitl [H13]
  · iexists _; isplitr; swap; · iexact H13
    ipureintro; refine (View.read_writes_full _ _ _ _ _).trans ?_; sl_unfold_run_names; simp only [View.readAt_eq_ld, Memref.IsWhole.read_unread, ld_16x1, ld_16x256, ld_1x16x128, cov_16x1, cov_16x256]; rfl
  isplitl [H14]
  · iexists _; isplitr; swap; · iexact H14
    ipureintro; refine (View.read_writes_full _ _ _ _ _).trans ?_; sl_unfold_run_names; simp only [View.readAt_eq_ld, Memref.IsWhole.read_unread, ld_16x1, ld_16x256, ld_1x16x128, cov_16x1, cov_16x256]; rfl
  iexists _; isplitr; swap; · iexact H15
  ipureintro; refine (View.read_writes_full _ _ _ _ _).trans ?_; sl_unfold_run_names; simp only [View.readAt_eq_ld, Memref.IsWhole.read_unread, ld_16x1, ld_16x256, ld_1x16x128, cov_16x1, cov_16x256]; rfl

end Cert.KernelIdeal.Hand

end
-- ==== Proof.KRunB.lean ====
module

public import proofs.«01_k».proof.Proof.KBody

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- At a middle block the body advances the running maximum, sum and weighted sum and leaves every other buffer as it was. -/
theorem run_B (c : Dev nD) (i : grid0.Coords) (arg2 : Memref sig .tc .smem S4x2 .f32) (harg2 : arg2.IsWhole) (arg3 : Memref sig .tc .vmem S1x16x128 .f32) (harg3 : arg3.IsWhole) (arg4 : Memref sig .tc .vmem S2x32x128 .f32) (harg4 : arg4.IsWhole) (arg5 : Memref sig .tc .vmem S2x32x128 .f32) (harg5 : arg5.IsWhole) (arg6 : Memref sig .tc .vmem S1x2x4096x128 .fp8e4m3) (harg6 : arg6.IsWhole) (arg7 : Memref sig .tc .vmem S1x2x4096x128 .fp8e4m3) (harg7 : arg7.IsWhole) (arg8 : Memref sig .tc .vmem S1x16x128 .f32) (harg8 : arg8.IsWhole) (arg9 : Memref sig .tc .vmem S2x32x128 .fp8e4m3) (harg9 : arg9.IsWhole) (arg10 : Memref sig .tc .vmem S2x32x128 .fp8e4m3) (harg10 : arg10.IsWhole) (arg11 : Memref sig .tc .vmem S2x32x128 .f32) (harg11 : arg11.IsWhole) (arg12 : Memref sig .tc .vmem S2x32x128 .f32) (harg12 : arg12.IsWhole) (arg13 : Memref sig .tc .vmem S16x1 .f32) (harg13 : arg13.IsWhole) (arg14 : Memref sig .tc .vmem S16x1 .f32) (harg14 : arg14.IsWhole) (arg15 : Memref sig .tc .vmem S16x256 .f32) (harg15 : arg15.IsWhole)
    (hc0 : ¬cond0_0 i) (hc1 : ¬cond0_1 i) (hc2 : ¬cond0_2 i)
    (x0 : Vec F S4x2 .f32) (x1 : Vec F S1x16x128 .f32) (x2 : Vec F S2x32x128 .f32) (x3 : Vec F S2x32x128 .f32) (x4 : Vec F S1x2x4096x128 .fp8e4m3) (x5 : Vec F S1x2x4096x128 .fp8e4m3) (y : Vec F S1x16x128 .f32) (kc : Vec F S2x32x128 .fp8e4m3) (vc : Vec F S2x32x128 .fp8e4m3) (kw : Vec F S2x32x128 .f32) (vw : Vec F S2x32x128 .f32) (mx : Vec F S16x1 .f32) (sm : Vec F S16x1 .f32) (ac : Vec F S16x256 .f32)
    (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y ∗ owns (c : Thread nD τ) arg9 fullShare kc ∗ owns (c : Thread nD τ) arg10 fullShare vc ∗ owns (c : Thread nD τ) arg11 fullShare kw ∗ owns (c : Thread nD τ) arg12 fullShare vw ∗ owns (c : Thread nD τ) arg13 fullShare mx ∗ owns (c : Thread nD τ) arg14 fullShare sm ∗ owns (c : Thread nD τ) arg15 fullShare ac
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y ∗ owns (c : Thread nD τ) arg9 fullShare kc ∗ owns (c : Thread nD τ) arg10 fullShare vc ∗ owns (c : Thread nD τ) arg11 fullShare kw ∗ owns (c : Thread nD τ) arg12 fullShare vw ∗ owns (c : Thread nD τ) arg13 fullShare (mNext x0 x1 x4 mx) ∗ owns (c : Thread nD τ) arg14 fullShare (sNext x0 x1 x4 mx sm) ∗ owns (c : Thread nD τ) arg15 fullShare (aNext x0 x1 x4 x5 mx ac)) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  simp only [k0_part4_eq_skeleton, k0_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc0 | sl_exact hc1 | sl_exact hc2)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; refine (View.read_writes_full _ _ _ _ _).trans ?_; sl_unfold_run_names; simp only [View.readAt_eq_ld, Memref.IsWhole.read_unread, ld_16x1, ld_16x256, ld_1x16x128, cov_16x1, cov_16x256]; rfl
  isplitl [H14]
  · iexists _; isplitr; swap; · iexact H14
    ipureintro; refine (View.read_writes_full _ _ _ _ _).trans ?_; sl_unfold_run_names; simp only [View.readAt_eq_ld, Memref.IsWhole.read_unread, ld_16x1, ld_16x256, ld_1x16x128, cov_16x1, cov_16x256]; rfl
  iexists _; isplitr; swap; · iexact H15
  ipureintro; refine (View.read_writes_full _ _ _ _ _).trans ?_; sl_unfold_run_names; simp only [View.readAt_eq_ld, Memref.IsWhole.read_unread, ld_16x1, ld_16x256, ld_1x16x128, cov_16x1, cov_16x256]; rfl

end Cert.KernelIdeal.Hand

end
-- ==== Proof.KRunC.lean ====
module

public import proofs.«01_k».proof.Proof.KBody

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- At a last block the body advances the running state and stores the result block. -/
theorem run_C (c : Dev nD) (i : grid0.Coords) (arg2 : Memref sig .tc .smem S4x2 .f32) (harg2 : arg2.IsWhole) (arg3 : Memref sig .tc .vmem S1x16x128 .f32) (harg3 : arg3.IsWhole) (arg4 : Memref sig .tc .vmem S2x32x128 .f32) (harg4 : arg4.IsWhole) (arg5 : Memref sig .tc .vmem S2x32x128 .f32) (harg5 : arg5.IsWhole) (arg6 : Memref sig .tc .vmem S1x2x4096x128 .fp8e4m3) (harg6 : arg6.IsWhole) (arg7 : Memref sig .tc .vmem S1x2x4096x128 .fp8e4m3) (harg7 : arg7.IsWhole) (arg8 : Memref sig .tc .vmem S1x16x128 .f32) (harg8 : arg8.IsWhole) (arg9 : Memref sig .tc .vmem S2x32x128 .fp8e4m3) (harg9 : arg9.IsWhole) (arg10 : Memref sig .tc .vmem S2x32x128 .fp8e4m3) (harg10 : arg10.IsWhole) (arg11 : Memref sig .tc .vmem S2x32x128 .f32) (harg11 : arg11.IsWhole) (arg12 : Memref sig .tc .vmem S2x32x128 .f32) (harg12 : arg12.IsWhole) (arg13 : Memref sig .tc .vmem S16x1 .f32) (harg13 : arg13.IsWhole) (arg14 : Memref sig .tc .vmem S16x1 .f32) (harg14 : arg14.IsWhole) (arg15 : Memref sig .tc .vmem S16x256 .f32) (harg15 : arg15.IsWhole)
    (hc0 : ¬cond0_0 i) (hc1 : ¬cond0_1 i) (hc2 : cond0_2 i)
    (x0 : Vec F S4x2 .f32) (x1 : Vec F S1x16x128 .f32) (x2 : Vec F S2x32x128 .f32) (x3 : Vec F S2x32x128 .f32) (x4 : Vec F S1x2x4096x128 .fp8e4m3) (x5 : Vec F S1x2x4096x128 .fp8e4m3) (y : Vec F S1x16x128 .f32) (kc : Vec F S2x32x128 .fp8e4m3) (vc : Vec F S2x32x128 .fp8e4m3) (kw : Vec F S2x32x128 .f32) (vw : Vec F S2x32x128 .f32) (mx : Vec F S16x1 .f32) (sm : Vec F S16x1 .f32) (ac : Vec F S16x256 .f32)
    (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y ∗ owns (c : Thread nD τ) arg9 fullShare kc ∗ owns (c : Thread nD τ) arg10 fullShare vc ∗ owns (c : Thread nD τ) arg11 fullShare kw ∗ owns (c : Thread nD τ) arg12 fullShare vw ∗ owns (c : Thread nD τ) arg13 fullShare mx ∗ owns (c : Thread nD τ) arg14 fullShare sm ∗ owns (c : Thread nD τ) arg15 fullShare ac
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (yOut i hc2 x1 kw vw (mNext x0 x1 x4 mx) (sNext x0 x1 x4 mx sm) (aNext x0 x1 x4 x5 mx ac)) ∗ owns (c : Thread nD τ) arg9 fullShare kc ∗ owns (c : Thread nD τ) arg10 fullShare vc ∗ owns (c : Thread nD τ) arg11 fullShare kw ∗ owns (c : Thread nD τ) arg12 fullShare vw ∗ owns (c : Thread nD τ) arg13 fullShare (mNext x0 x1 x4 mx) ∗ owns (c : Thread nD τ) arg14 fullShare (sNext x0 x1 x4 mx sm) ∗ owns (c : Thread nD τ) arg15 fullShare (aNext x0 x1 x4 x5 mx ac)) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  simp only [k0_part4_eq_skeleton, k0_part5_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc0 | sl_exact hc1 | sl_exact hc2)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; refine (View.read_writes_full _ _ _ _ _).trans ?_; sl_unfold_run_names; simp only [View.readAt_eq_ld, Memref.IsWhole.read_unread, ld_16x1, ld_16x256, ld_1x16x128, cov_16x1, cov_16x256]; rfl
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; refine (View.read_writes_full _ _ _ _ _).trans ?_; sl_unfold_run_names; simp only [View.readAt_eq_ld, Memref.IsWhole.read_unread, ld_16x1, ld_16x256, ld_1x16x128, cov_16x1, cov_16x256]; rfl
  isplitl [H14]
  · iexists _; isplitr; swap; · iexact H14
    ipureintro; refine (View.read_writes_full _ _ _ _ _).trans ?_; sl_unfold_run_names; simp only [View.readAt_eq_ld, Memref.IsWhole.read_unread, ld_16x1, ld_16x256, ld_1x16x128, cov_16x1, cov_16x256]; rfl
  iexists _; isplitr; swap; · iexact H15
  ipureintro; refine (View.read_writes_full _ _ _ _ _).trans ?_; sl_unfold_run_names; simp only [View.readAt_eq_ld, Memref.IsWhole.read_unread, ld_16x1, ld_16x256, ld_1x16x128, cov_16x1, cov_16x256]; rfl

end Cert.KernelIdeal.Hand

end
-- ==== Proof.KRunD.lean ====
module

public import proofs.«01_k».proof.Proof.KBody

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- At a first block (not the grid's first) the body starts the running state afresh. -/
theorem run_D (c : Dev nD) (i : grid0.Coords) (arg2 : Memref sig .tc .smem S4x2 .f32) (harg2 : arg2.IsWhole) (arg3 : Memref sig .tc .vmem S1x16x128 .f32) (harg3 : arg3.IsWhole) (arg4 : Memref sig .tc .vmem S2x32x128 .f32) (harg4 : arg4.IsWhole) (arg5 : Memref sig .tc .vmem S2x32x128 .f32) (harg5 : arg5.IsWhole) (arg6 : Memref sig .tc .vmem S1x2x4096x128 .fp8e4m3) (harg6 : arg6.IsWhole) (arg7 : Memref sig .tc .vmem S1x2x4096x128 .fp8e4m3) (harg7 : arg7.IsWhole) (arg8 : Memref sig .tc .vmem S1x16x128 .f32) (harg8 : arg8.IsWhole) (arg9 : Memref sig .tc .vmem S2x32x128 .fp8e4m3) (harg9 : arg9.IsWhole) (arg10 : Memref sig .tc .vmem S2x32x128 .fp8e4m3) (harg10 : arg10.IsWhole) (arg11 : Memref sig .tc .vmem S2x32x128 .f32) (harg11 : arg11.IsWhole) (arg12 : Memref sig .tc .vmem S2x32x128 .f32) (harg12 : arg12.IsWhole) (arg13 : Memref sig .tc .vmem S16x1 .f32) (harg13 : arg13.IsWhole) (arg14 : Memref sig .tc .vmem S16x1 .f32) (harg14 : arg14.IsWhole) (arg15 : Memref sig .tc .vmem S16x256 .f32) (harg15 : arg15.IsWhole)
    (hc0 : ¬cond0_0 i) (hc1 : cond0_1 i) (hc2 : ¬cond0_2 i)
    (x0 : Vec F S4x2 .f32) (x1 : Vec F S1x16x128 .f32) (x2 : Vec F S2x32x128 .f32) (x3 : Vec F S2x32x128 .f32) (x4 : Vec F S1x2x4096x128 .fp8e4m3) (x5 : Vec F S1x2x4096x128 .fp8e4m3) (y : Vec F S1x16x128 .f32) (kc : Vec F S2x32x128 .fp8e4m3) (vc : Vec F S2x32x128 .fp8e4m3) (kw : Vec F S2x32x128 .f32) (vw : Vec F S2x32x128 .f32) (mx : Vec F S16x1 .f32) (sm : Vec F S16x1 .f32) (ac : Vec F S16x256 .f32)
    (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y ∗ owns (c : Thread nD τ) arg9 fullShare kc ∗ owns (c : Thread nD τ) arg10 fullShare vc ∗ owns (c : Thread nD τ) arg11 fullShare kw ∗ owns (c : Thread nD τ) arg12 fullShare vw ∗ owns (c : Thread nD τ) arg13 fullShare mx ∗ owns (c : Thread nD τ) arg14 fullShare sm ∗ owns (c : Thread nD τ) arg15 fullShare ac
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y ∗ owns (c : Thread nD τ) arg9 fullShare kc ∗ owns (c : Thread nD τ) arg10 fullShare vc ∗ owns (c : Thread nD τ) arg11 fullShare kw ∗ owns (c : Thread nD τ) arg12 fullShare vw ∗ owns (c : Thread nD τ) arg13 fullShare (mNext x0 x1 x4 (k0_pay23 (F := F))) ∗ owns (c : Thread nD τ) arg14 fullShare (sNext x0 x1 x4 (k0_pay23 (F := F)) (k0_pay24 (F := F))) ∗ owns (c : Thread nD τ) arg15 fullShare (aNext x0 x1 x4 x5 (k0_pay23 (F := F)) (k0_pay25 (F := F)))) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  simp only [k0_part4_eq_skeleton, k0_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc0 | sl_exact hc1 | sl_exact hc2)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; refine (View.read_writes_full _ _ _ _ _).trans ?_; sl_unfold_run_names; simp only [View.readAt_eq_ld, Memref.IsWhole.read_unread, ld_16x1, ld_16x256, ld_1x16x128, cov_16x1, cov_16x256]; rfl
  isplitl [H14]
  · iexists _; isplitr; swap; · iexact H14
    ipureintro; refine (View.read_writes_full _ _ _ _ _).trans ?_; sl_unfold_run_names; simp only [View.readAt_eq_ld, Memref.IsWhole.read_unread, ld_16x1, ld_16x256, ld_1x16x128, cov_16x1, cov_16x256]; rfl
  iexists _; isplitr; swap; · iexact H15
  ipureintro; refine (View.read_writes_full _ _ _ _ _).trans ?_; sl_unfold_run_names; simp only [View.readAt_eq_ld, Memref.IsWhole.read_unread, ld_16x1, ld_16x256, ld_1x16x128, cov_16x1, cov_16x256]; rfl

end Cert.KernelIdeal.Hand

end
-- ==== Proof.KFrame.lean ====
module

public import proofs.«01_k».proof.Proof.KRunA
public import proofs.«01_k».proof.Proof.KRunB
public import proofs.«01_k».proof.Proof.KRunC
public import proofs.«01_k».proof.Proof.KRunD
public import Idealize.ShloMosaic.Lib.Pipeline.TableIdle

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What the buffers hold after each point -/

/-- The running state: maximum, sum, weighted sum. -/
abbrev St (F : FTy → Type) : Type := Vec F S16x1 .f32 × Vec F S16x1 .f32 × Vec F S16x256 .f32

/-- The state a first block starts from. -/
def start : St F := (k0_pay23 (F := F), k0_pay24 (F := F), k0_pay25 (F := F))

/-- One block's step at point `t`. -/
def step (c : Dev nD) (t : Fin cfg0.N) (s : St F) : St F :=
  (mNext (iblk m c 0 t) (iblk m c 1 t) (iblk m c 4 t) s.1,
   sNext (iblk m c 0 t) (iblk m c 1 t) (iblk m c 4 t) s.1 s.2.1,
   aNext (iblk m c 0 t) (iblk m c 1 t) (iblk m c 4 t) (iblk m c 5 t) s.1 s.2.2)

/-- The running state after the body at position `n`: every fourth point starts afresh. -/
def stAt (c : Dev nD) : (n : ℕ) → n < cfg0.N → St F
  | 0, h => step m c ⟨0, h⟩ start
  | n + 1, h => step m c ⟨n + 1, h⟩ (if (n + 1) % 4 = 0 then start else stAt c n (Nat.lt_of_succ_lt h))

theorem stAt_first (c : Dev nD) (t : Fin cfg0.N) (h : t.val % 4 = 0) : stAt m c t.val t.isLt = step m c t start := by
  obtain ⟨n, hn⟩ := t
  cases n with
  | zero => rfl
  | succ n => simp only [stAt]; rw [if_pos h]

theorem stAt_next (c : Dev nD) (t : Fin cfg0.N) (h : ¬t.val % 4 = 0) :
    stAt m c t.val t.isLt = step m c t (stAt m c (t.val - 1) (Nat.lt_of_le_of_lt (Nat.sub_le _ _) t.isLt)) := by
  obtain ⟨n, hn⟩ := t
  cases n with
  | zero => exact absurd (Nat.zero_mod _) h
  | succ n => simp only [stAt]; rw [if_neg h]; rfl

/-- The grid's first point. -/
def p0 : Fin cfg0.N := ⟨0, by rw [show cfg0.N = 128 from N_0]; decide⟩

/-- The codes and the widened new keys and values, all made at the grid's first point. -/
def kcAt (c : Dev nD) : Vec F S2x32x128 .fp8e4m3 := kCodes (iblk m c 0 p0) (iblk m c 2 p0)
def vcAt (c : Dev nD) : Vec F S2x32x128 .fp8e4m3 := vCodes (iblk m c 0 p0) (iblk m c 3 p0)
def kwAt (c : Dev nD) : Vec F S2x32x128 .f32 := kWide (iblk m c 0 p0) (iblk m c 2 p0)
def vwAt (c : Dev nD) : Vec F S2x32x128 .f32 := vWide (iblk m c 0 p0) (iblk m c 3 p0)

/-- The result block at point `t`: stored at a last block; elsewhere a placeholder nothing reads. -/
def yAt (c : Dev nD) (t : Fin cfg0.N) : Vec F S1x16x128 .f32 :=
  if h : k0_cond3 (grid0.coords t) = 1#1 then
    yOut (grid0.coords t) h (iblk m c 1 t) (kwAt m c) (vwAt m c) (stAt m c t.val t.isLt).1 (stAt m c t.val t.isLt).2.1
      (stAt m c t.val t.isLt).2.2
  else iblk m c 1 t

/-! ## The proof data -/

/-- The invariant before position `n`: before the first point the scratch at anything, afterwards the widened new keys
    and values and the running state the point before left. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare (kwAt m c) ∗ owns (c : Thread nD τ) scM0_1 fullShare (vwAt m c) ∗ owns (c : Thread nD τ) scM0_2 fullShare (stAt m c n hn).1 ∗ owns (c : Thread nD τ) scM0_3 fullShare (stAt m c n hn).2.1 ∗ owns (c : Thread nD τ) scM0_4 fullShare (stAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (kwAt m c) ∗ owns (c : Thread nD τ) scM0_1 fullShare (vwAt m c) ∗ owns (c : Thread nD τ) scM0_2 fullShare (stAt m c n hn).1 ∗ owns (c : Thread nD τ) scM0_3 fullShare (stAt m c n hn).2.1 ∗ owns (c : Thread nD τ) scM0_4 fullShare (stAt m c n hn).2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (kwAt m c) ∗ owns (c : Thread nD τ) scM0_1 fullShare (vwAt m c) ∗ owns (c : Thread nD τ) scM0_2 fullShare (stAt m c (n - 1) (by omega)).1 ∗ owns (c : Thread nD τ) scM0_3 fullShare (stAt m c (n - 1) (by omega)).2.1 ∗ owns (c : Thread nD τ) scM0_4 fullShare (stAt m c (n - 1) (by omega)).2.2) ∗ (∃ r, prngReg c r)) := by
  cases n with
  | zero => exact absurd rfl hz
  | succ n => rfl

/-- The proof data of the pipeline: each input's buffer at its block, the outputs' at the values above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yAt m c t
    | ⟨7, _⟩ => kcAt m c
    | ⟨8, _⟩ => vcAt m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = yAt m c t := by dsimp only [dats]
theorem after0_7 (c : Dev nD) (t : Fin cfg0.N) : (dats m 0 c).after 7 t = kcAt m c := by dsimp only [dats]
theorem after0_8 (c : Dev nD) (t : Fin cfg0.N) : (dats m 0 c).after 8 t = vcAt m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Output 7's buffer holds what the first point stored, and what is written back into it, from the second point on. -/
theorem fresh0_7 : ∀ n, n ≤ cfg0.N → cfg0.fresh 7 n = (n == 0 || n == 128) :=
  cfg0.fresh_tab 7 (fun n => n == 0 || n == 128) rfl fun t => by
    have hN : t.val < 128 := lt_of_lt_of_eq t.isLt (show cfg0.N = 128 from N_0)
    rw [flush0_7 t]
    by_cases hc : cond0_0 (grid0.coords t)
    · have h0 : t.val % 128 = 0 := (hcond0_0 t).mp hc
      have hz : t.val = 0 := by omega
      rw [liveAt0_7_A t hc, hz]; decide
    · have h0 : ¬t.val % 128 = 0 := fun h => hc ((hcond0_0 t).mpr h)
      have hz : t.val ≠ 0 := by omega
      rw [idleAt0_7 t hc]
      simp [hz]
      omega

theorem before0_7 (c : Dev nD) (t : Fin cfg0.N) (hz : t.val ≠ 0) (d) : (dats m 0 c).before 7 t d = kcAt m c := by
  have hN : t.val < 128 := lt_of_lt_of_eq t.isLt (show cfg0.N = 128 from N_0)
  rw [(dats m 0 c).before_out_traj 7 rfl (fun _ _ => rfl) (fun t _ _ _ => by rw [after0_7, after0_7]) t.val t rfl d,
    fresh0_7 t.val (Nat.le_of_lt t.isLt), after0_7]
  have : (t.val == 0 || t.val == 128) = false := by simp; omega
  rw [this]; rfl

theorem leaves0_7 (c : Dev nD) (t : Fin cfg0.N) (hz : t.val ≠ 0) (d : (cfg0.win 7).block.Idx → Elt F (cfg0.win 7).elt) :
    owns (c : Thread nD τ) (ms0_7 t) fullShare (kcAt m c) ⊢ (dats m 0 c).leavesExact 7 t := by
  have hN : t.val < 128 := lt_of_lt_of_eq t.isLt (show cfg0.N = 128 from N_0)
  have hi : cfg0.idle 7 (grid0.coords t) = true := idleAt0_7 t fun h => by have := (hcond0_0 t).mp h; omega
  by_cases hl : t.val = 127
  · have hf : (cfg0.win 7).flush t = true := by rw [flush0_7 t, hl]; rfl
    rw [show (dats m 0 c).leavesExact 7 t = owns (c : Thread nD τ) (ms0_7 t) fullShare ((dats m 0 c).after 7 t) from by
      unfold Dat.leavesExact; rw [hi, hf], after0_7]
    try exact Idealize.SL.BI.Entails.refl _
  · have hf : (cfg0.win 7).flush t = false := by rw [flush0_7 t]; simpa using hl
    rw [Dat.leavesExact_idle (dats m 0 c) 7 t hi hf]
    iintro H
    iexists d
    rw [before0_7 m c t hz d]
    iexact H

/-- Output 8's buffer holds what the first point stored, and what is written back into it, from the second point on. -/
theorem fresh0_8 : ∀ n, n ≤ cfg0.N → cfg0.fresh 8 n = (n == 0 || n == 128) :=
  cfg0.fresh_tab 8 (fun n => n == 0 || n == 128) rfl fun t => by
    have hN : t.val < 128 := lt_of_lt_of_eq t.isLt (show cfg0.N = 128 from N_0)
    rw [flush0_8 t]
    by_cases hc : cond0_0 (grid0.coords t)
    · have h0 : t.val % 128 = 0 := (hcond0_0 t).mp hc
      have hz : t.val = 0 := by omega
      rw [liveAt0_8_A t hc, hz]; decide
    · have h0 : ¬t.val % 128 = 0 := fun h => hc ((hcond0_0 t).mpr h)
      have hz : t.val ≠ 0 := by omega
      rw [idleAt0_8 t hc]
      simp [hz]
      omega

theorem before0_8 (c : Dev nD) (t : Fin cfg0.N) (hz : t.val ≠ 0) (d) : (dats m 0 c).before 8 t d = vcAt m c := by
  have hN : t.val < 128 := lt_of_lt_of_eq t.isLt (show cfg0.N = 128 from N_0)
  rw [(dats m 0 c).before_out_traj 8 rfl (fun _ _ => rfl) (fun t _ _ _ => by rw [after0_8, after0_8]) t.val t rfl d,
    fresh0_8 t.val (Nat.le_of_lt t.isLt), after0_8]
  have : (t.val == 0 || t.val == 128) = false := by simp; omega
  rw [this]; rfl

theorem leaves0_8 (c : Dev nD) (t : Fin cfg0.N) (hz : t.val ≠ 0) (d : (cfg0.win 8).block.Idx → Elt F (cfg0.win 8).elt) :
    owns (c : Thread nD τ) (ms0_8 t) fullShare (vcAt m c) ⊢ (dats m 0 c).leavesExact 8 t := by
  have hN : t.val < 128 := lt_of_lt_of_eq t.isLt (show cfg0.N = 128 from N_0)
  have hi : cfg0.idle 8 (grid0.coords t) = true := idleAt0_8 t fun h => by have := (hcond0_0 t).mp h; omega
  by_cases hl : t.val = 127
  · have hf : (cfg0.win 8).flush t = true := by rw [flush0_8 t, hl]; rfl
    rw [show (dats m 0 c).leavesExact 8 t = owns (c : Thread nD τ) (ms0_8 t) fullShare ((dats m 0 c).after 8 t) from by
      unfold Dat.leavesExact; rw [hi, hf], after0_8]
    try exact Idealize.SL.BI.Entails.refl _
  · have hf : (cfg0.win 8).flush t = false := by rw [flush0_8 t]; simpa using hl
    rw [Dat.leavesExact_idle (dats m 0 c) 8 t hi hf]
    iintro H
    iexists d
    rw [before0_8 m c t hz d]
    iexact H

/-! ## The body obligation -/

/-- What the body is called with at point `t`, window by window, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves0_4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]
theorem leaves0_5 (c : Dev nD) (t : Fin cfg0.N) : (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [liveAt0_5 t], after0_5]

set_option maxHeartbeats 4000000 in
/-- The body at a point of case A. -/
theorem sound_A (c : Dev nD) (t : Fin cfg0.N) (h0 : t.val % 128 = 0) (h1 : t.val % 4 = 0) (h2 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [leaves0_0, leaves0_1, leaves0_2, leaves0_3, leaves0_4, leaves0_5]
  rw [Dat.leavesExact_idle (dats m 0 c) 6 t (idleAt0_6_A t ((hcond0_0 t).mpr h0) ((hcond0_1 t).mpr h1) (fun h => h2 ((hcond0_2 t).mp h))) (noFlush0_6_A t ((hcond0_0 t).mpr h0) ((hcond0_1 t).mpr h1) (fun h => h2 ((hcond0_2 t).mp h)))]
  have hz : t.val = 0 := by omega
  obtain rfl : t = p0 := Fin.ext hz
  rw [show (dats m 0 c).leavesExact 7 p0 = owns (c : Thread nD τ) (ms0_7 p0) fullShare ((dats m 0 c).after 7 p0) from by
    unfold Dat.leavesExact; rw [liveAt0_7_A p0 ((hcond0_0 p0).mpr h0)], after0_7]
  rw [show (dats m 0 c).leavesExact 8 p0 = owns (c : Thread nD τ) (ms0_8 p0) fullShare ((dats m 0 c).after 8 p0) from by
    unfold Dat.leavesExact; rw [liveAt0_8_A p0 ((hcond0_0 p0).mpr h0)], after0_8]
  rw [PhiS_castSucc m c p0, PhiS_zero m c _ _ hz, PhiA0_eq, stAt_first m c p0 h1]
  iintro ⟨⟨⟨⟨%s0, HS0⟩, ⟨%s1, HS1⟩, ⟨%s2, HS2⟩, ⟨%s3, HS3⟩, ⟨%s4, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_A c (grid0.coords p0) _ _ _ _ _ _ _ _ _ _ _ _ _ _ _ _ _ _ _ _ _ _ _ _ _ _ _ _ ((hcond0_0 p0).mpr h0) ((hcond0_1 p0).mpr h1) (fun h => h2 ((hcond0_2 p0).mp h)) (iblk m c 0 p0) (iblk m c 1 p0) (iblk m c 2 p0) (iblk m c 3 p0) (iblk m c 4 p0) (iblk m c 5 p0) _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iexact H8

set_option maxHeartbeats 4000000 in
/-- The body at a point of case B. -/
theorem sound_B (c : Dev nD) (t : Fin cfg0.N) (h0 : ¬t.val % 128 = 0) (h1 : ¬t.val % 4 = 0) (h2 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [leaves0_0, leaves0_1, leaves0_2, leaves0_3, leaves0_4, leaves0_5]
  rw [Dat.leavesExact_idle (dats m 0 c) 6 t (idleAt0_6_B t (fun h => h0 ((hcond0_0 t).mp h)) (fun h => h1 ((hcond0_1 t).mp h)) (fun h => h2 ((hcond0_2 t).mp h))) (noFlush0_6_B t (fun h => h0 ((hcond0_0 t).mp h)) (fun h => h1 ((hcond0_1 t).mp h)) (fun h => h2 ((hcond0_2 t).mp h)))]
  have hz : t.val ≠ 0 := by omega
  rw [PhiS_castSucc m c t, PhiS_pos m c _ _ hz]
  rw [stAt_next m c t h1]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_7 m c t hz d7, before0_8 m c t hz d8]
  iapply (run_B c (grid0.coords t) _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iapply (leaves0_7 m c t hz d7); iexact H7
  iapply (leaves0_8 m c t hz d8); iexact H8

set_option maxHeartbeats 4000000 in
/-- The body at a point of case C. -/
theorem sound_C (c : Dev nD) (t : Fin cfg0.N) (h0 : ¬t.val % 128 = 0) (h1 : ¬t.val % 4 = 0) (h2 : t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [leaves0_0, leaves0_1, leaves0_2, leaves0_3, leaves0_4, leaves0_5]
  rw [show (dats m 0 c).leavesExact 6 t = owns (c : Thread nD τ) (ms0_6 t) fullShare ((dats m 0 c).after 6 t) from by
    unfold Dat.leavesExact; rw [liveAt0_6_C t (fun h => h0 ((hcond0_0 t).mp h)) (fun h => h1 ((hcond0_1 t).mp h)) ((hcond0_2 t).mpr h2)], after0_6, yAt, dif_pos ((hcond0_2 t).mpr h2)]
  have hz : t.val ≠ 0 := by omega
  rw [PhiS_castSucc m c t, PhiS_pos m c _ _ hz]
  rw [stAt_next m c t h1]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_7 m c t hz d7, before0_8 m c t hz d8]
  iapply (run_C c (grid0.coords t) _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves0_7 m c t hz d7); iexact H7
  iapply (leaves0_8 m c t hz d8); iexact H8

set_option maxHeartbeats 4000000 in
/-- The body at a point of case D. -/
theorem sound_D (c : Dev nD) (t : Fin cfg0.N) (h0 : ¬t.val % 128 = 0) (h1 : t.val % 4 = 0) (h2 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [leaves0_0, leaves0_1, leaves0_2, leaves0_3, leaves0_4, leaves0_5]
  rw [Dat.leavesExact_idle (dats m 0 c) 6 t (idleAt0_6_D t (fun h => h0 ((hcond0_0 t).mp h)) ((hcond0_1 t).mpr h1) (fun h => h2 ((hcond0_2 t).mp h))) (noFlush0_6_D t (fun h => h0 ((hcond0_0 t).mp h)) ((hcond0_1 t).mpr h1) (fun h => h2 ((hcond0_2 t).mp h)))]
  have hz : t.val ≠ 0 := by omega
  rw [PhiS_castSucc m c t, PhiS_pos m c _ _ hz]
  rw [stAt_first m c t h1]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_7 m c t hz d7, before0_8 m c t hz d8]
  iapply (run_D c (grid0.coords t) _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iapply (leaves0_7 m c t hz d7); iexact H7
  iapply (leaves0_8 m c t hz d8); iexact H8

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 128 = 0
  · exact sound_A m c t h0 (by omega) (by omega)
  · by_cases h1 : t.val % 4 = 0
    · exact sound_D m c t h0 h1 (by omega)
    · by_cases h2 : t.val % 4 = 3
      · exact sound_C m c t h0 h1 h2
      · exact sound_B m c t h0 h1 h2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME, at any reading of the floats: the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Hand

end
-- ==== Proof.PShared.lean ====
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 128 = 0 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 128 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_1 : ∀ t : Fin cfg0.N, cond0_1 (grid0.coords t) ↔ t.val % 4 = 0 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [cond0_1, e0, e1]
    word_cmp
   : ∀ t : Fin grid0.N, cond0_1 (grid0.coords t) ↔ t.val % 4 = 0)

/-- The condition of the body's `scf.if` 2 (`k0_h3`), from the grid coordinates (the skeleton's scalar
    chain substituted). -/
abbrev cond0_2 (i : grid0.Coords) : Prop := k0_cond3 i = 1#1
/-- It holds at the points ≡ 3 (mod 4) — by arithmetic of the point. -/
theorem hcond0_2 : ∀ t : Fin cfg0.N, cond0_2 (grid0.coords t) ↔ t.val % 4 = 3 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [cond0_2, k0_cond3, e0, e1]
    word_cmp
   : ∀ t : Fin grid0.N, cond0_2 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- At the points of case A the printed configuration (`Cfg.idle`) calls output 6 idle: the case stores nothing into it. -/
theorem idleAt0_6_A : ∀ t : Fin cfg0.N, cond0_0 (grid0.coords t) → cond0_1 (grid0.coords t) → ¬cond0_2 (grid0.coords t) → cfg0.idle 6 (grid0.coords t) = true := by decide +kernel
/-- At the points of case A the pipeline does not write output 6's block back. -/
theorem noFlush0_6_A : ∀ t : Fin cfg0.N, cond0_0 (grid0.coords t) → cond0_1 (grid0.coords t) → ¬cond0_2 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → ¬cond0_2 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → ¬cond0_2 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → ¬cond0_1 (grid0.coords t) → cond0_2 (grid0.coords t) → cfg0.idle 6 (grid0.coords t) = false := by decide +kernel
/-- At the points of case D the printed configuration (`Cfg.idle`) calls output 6 idle: the case stores nothing into it. -/
theorem idleAt0_6_D : ∀ t : Fin cfg0.N, ¬cond0_0 (grid0.coords t) → cond0_1 (grid0.coords t) → ¬cond0_2 (grid0.coords t) → cfg0.idle 6 (grid0.coords t) = true := by decide +kernel
/-- At the points of case D the pipeline does not write output 6's block back. -/
theorem noFlush0_6_D : ∀ t : Fin cfg0.N, ¬cond0_0 (grid0.coords t) → cond0_1 (grid0.coords t) → ¬cond0_2 (grid0.coords t) → (cfg0.win 6).flush t = false := by decide +kernel

/-- Outputs 7 and 8 are idle at every point but the first, -/
theorem idleAt0_7 : ∀ t : Fin cfg0.N, ¬cond0_0 (grid0.coords t) → cfg0.idle 7 (grid0.coords t) = true := by decide +kernel
theorem idleAt0_8 : ∀ t : Fin cfg0.N, ¬cond0_0 (grid0.coords t) → cfg0.idle 8 (grid0.coords t) = true := by decide +kernel
/-- and live at the first. -/
theorem liveAt0_7_A : ∀ t : Fin cfg0.N, cond0_0 (grid0.coords t) → cfg0.idle 7 (grid0.coords t) = false := by decide +kernel
theorem liveAt0_8_A : ∀ t : Fin cfg0.N, cond0_0 (grid0.coords t) → cfg0.idle 8 (grid0.coords t) = false := by decide +kernel
/-- Outputs 7 and 8 are written back after the last point only. -/
theorem flush0_7 : ∀ t : Fin cfg0.N, (cfg0.win 7).flush t = (t.val == 127) := by decide +kernel
theorem flush0_8 : ∀ t : Fin cfg0.N, (cfg0.win 8).flush t = (t.val == 127) := by decide +kernel

/-! ## The memrefs the body is called with -/

/-- Each window's current staging memref at point `t`, spelled as the pipeline passes it (`bodyAt0`), and its wholeness. -/
abbrev ms0_0 (t : Fin cfg0.N) : Memref sig .tc .smem S4x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x16x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x32x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x32x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x4096x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x4096x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x32x128 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x32x128 .fp8e4m3 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S2x32x128 .f32 := Memref.whole cc0_scratch0
abbrev scM0_1 : Memref sig .tc .vmem S2x32x128 .f32 := Memref.whole cc0_scratch1
abbrev scM0_2 : Memref sig .tc .vmem S16x1 .f32 := Memref.whole cc0_scratch2
abbrev scM0_3 : Memref sig .tc .vmem S16x1 .f32 := Memref.whole cc0_scratch3
abbrev scM0_4 : Memref sig .tc .vmem S16x256 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Hand

end
-- ==== Proof.PBody.lean ====
module

public import proofs.«01_k».proof.Proof.PShared
public import Idealize.ShloMosaic.Lib.Pipeline.Value
public import Idealize.ShloMosaic.Lib.VecWindow

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## What the body computes, as functions of the contents it finds

The body's payloads (`k0_pay…`) put together as functions of what its buffers hold: `x0` the scale table, `x1` the
query block, `x2`, `x3` the new keys and values, `x4`, `x5` a block of the two caches; `kw`, `vw` the widened new keys
and values, `mx`, `sm`, `ac` the running maximum, sum and weighted sum. -/

/-- The scale table's words: row 0 the key scales, 1 the value scales, 2 and 3 their inverses; a column per head. -/
def w00 (x0 : Vec F S4x2 .f32) : Elt F .f32 := View.ld x0 (Rect.unit ![0, 0] ![1, 1] inb_S4x2_S1x1_0_0) (Shape.Idx.first (numel1_S1x1.symm ▸ Nat.one_pos))
def w01 (x0 : Vec F S4x2 .f32) : Elt F .f32 := View.ld x0 (Rect.unit ![0, 1] ![1, 1] inb_S4x2_S1x1_0_1) (Shape.Idx.first (numel1_S1x1.symm ▸ Nat.one_pos))
def w10 (x0 : Vec F S4x2 .f32) : Elt F .f32 := View.ld x0 (Rect.unit ![1, 0] ![1, 1] inb_S4x2_S1x1_1_0) (Shape.Idx.first (numel1_S1x1.symm ▸ Nat.one_pos))
def w11 (x0 : Vec F S4x2 .f32) : Elt F .f32 := View.ld x0 (Rect.unit ![1, 1] ![1, 1] inb_S4x2_S1x1_1_1) (Shape.Idx.first (numel1_S1x1.symm ▸ Nat.one_pos))
def w20 (x0 : Vec F S4x2 .f32) : Elt F .f32 := View.ld x0 (Rect.unit ![2, 0] ![1, 1] inb_S4x2_S1x1_2_0) (Shape.Idx.first (numel1_S1x1.symm ▸ Nat.one_pos))
def w21 (x0 : Vec F S4x2 .f32) : Elt F .f32 := View.ld x0 (Rect.unit ![2, 1] ![1, 1] inb_S4x2_S1x1_2_1) (Shape.Idx.first (numel1_S1x1.symm ▸ Nat.one_pos))
def w30 (x0 : Vec F S4x2 .f32) : Elt F .f32 := View.ld x0 (Rect.unit ![3, 0] ![1, 1] inb_S4x2_S1x1_3_0) (Shape.Idx.first (numel1_S1x1.symm ▸ Nat.one_pos))
def w31 (x0 : Vec F S4x2 .f32) : Elt F .f32 := View.ld x0 (Rect.unit ![3, 1] ![1, 1] inb_S4x2_S1x1_3_1) (Shape.Idx.first (numel1_S1x1.symm ▸ Nat.one_pos))

/-- One head's rows of a cache block. -/
def hd0 (x : Vec F S1x2x4096x128 .fp8e4m3) : Vec F S1x1x4096x128 .fp8e4m3 := View.ld x (Rect.unit ![0, 0, 0, 0] ![1, 1, 4096, 128] inb_S1x2x4096x128_S1x1x4096x128_0_0_0_0)
def hd1 (x : Vec F S1x2x4096x128 .fp8e4m3) : Vec F S1x1x4096x128 .fp8e4m3 := View.ld x (Rect.unit ![0, 1, 0, 0] ![1, 1, 4096, 128] inb_S1x2x4096x128_S1x1x4096x128_0_1_0_0)

/-- One head's rows of the new keys or values. -/
def nh0 (x : Vec F S2x32x128 .f32) : Vec F S1x32x128 .f32 := View.ld x (Rect.unit ![0, 0, 0] ![1, 32, 128] inb_S2x32x128_S1x32x128_0_0_0)
def nh1 (x : Vec F S2x32x128 .f32) : Vec F S1x32x128 .f32 := View.ld x (Rect.unit ![1, 0, 0] ![1, 32, 128] inb_S2x32x128_S1x32x128_1_0_0)

/-- The new keys' codes (clipped, rounded to eight bits), both heads. -/
def kCodes (x0 : Vec F S4x2 .f32) (x2 : Vec F S2x32x128 .f32) : Vec F S2x32x128 .fp8e4m3 :=
  View.canon [⟨Rect.unit ![1, 0, 0] ![1, 32, 128] inb_S2x32x128_S1x32x128_1_0_0, k0_pay13 (nh1 x2) (w21 x0)⟩,
    ⟨Rect.unit ![0, 0, 0] ![1, 32, 128] inb_S2x32x128_S1x32x128_0_0_0, k0_pay7 (nh0 x2) (w20 x0)⟩]
/-- The new values' codes. -/
def vCodes (x0 : Vec F S4x2 .f32) (x3 : Vec F S2x32x128 .f32) : Vec F S2x32x128 .fp8e4m3 :=
  View.canon [⟨Rect.unit ![1, 0, 0] ![1, 32, 128] inb_S2x32x128_S1x32x128_1_0_0, k0_pay20 (k0_pay12 (nh1 x3) (w31 x0))⟩,
    ⟨Rect.unit ![0, 0, 0] ![1, 32, 128] inb_S2x32x128_S1x32x128_0_0_0, k0_pay8 (nh0 x3) (w30 x0)⟩]
/-- The new keys read back from their codes. -/
def kWide (x0 : Vec F S4x2 .f32) (x2 : Vec F S2x32x128 .f32) : Vec F S2x32x128 .f32 :=
  View.canon [⟨Rect.unit ![1, 0, 0] ![1, 32, 128] inb_S2x32x128_S1x32x128_1_0_0, k0_pay21 (w01 x0) (k0_pay11 (nh1 x2) (w21 x0))⟩,
    ⟨Rect.unit ![0, 0, 0] ![1, 32, 128] inb_S2x32x128_S1x32x128_0_0_0, k0_pay9 (w00 x0) (nh0 x2) (w20 x0)⟩]
/-- The new values read back from their codes. -/
def vWide (x0 : Vec F S4x2 .f32) (x3 : Vec F S2x32x128 .f32) : Vec F S2x32x128 .f32 :=
  View.canon [⟨Rect.unit ![1, 0, 0] ![1, 32, 128] inb_S2x32x128_S1x32x128_1_0_0, k0_pay22 (w11 x0) (k0_pay12 (nh1 x3) (w31 x0))⟩,
    ⟨Rect.unit ![0, 0, 0] ![1, 32, 128] inb_S2x32x128_S1x32x128_0_0_0, k0_pay10 (w10 x0) (k0_pay6 (nh0 x3) (w30 x0))⟩]

/-- The running maximum after a block. -/
def mNext (x0 : Vec F S4x2 .f32) (x1 : Vec F S1x16x128 .f32) (x4 : Vec F S1x2x4096x128 .fp8e4m3) (mx : Vec F S16x1 .f32) : Vec F S16x1 .f32 :=
  k0_pay3 (k0_pay31 (w01 x0) (k0_pay27 x1) (k0_pay28 (w00 x0) (hd0 x4)) (hd1 x4) mx)
/-- The running sum after a block. -/
def sNext (x0 : Vec F S4x2 .f32) (x1 : Vec F S1x16x128 .f32) (x4 : Vec F S1x2x4096x128 .fp8e4m3) (mx sm : Vec F S16x1 .f32) : Vec F S16x1 .f32 :=
  k0_pay1 (k0_pay34 (w01 x0) (k0_pay27 x1) (k0_pay28 (w00 x0) (hd0 x4)) (hd1 x4) mx sm)
/-- The running weighted sum of value rows after a block. -/
def aNext (x0 : Vec F S4x2 .f32) (x1 : Vec F S1x16x128 .f32) (x4 x5 : Vec F S1x2x4096x128 .fp8e4m3) (mx : Vec F S16x1 .f32) (ac : Vec F S16x256 .f32) : Vec F S16x256 .f32 :=
  k0_pay2 (k0_pay29 (w10 x0) (w11 x0) (hd0 x5) (hd1 x5))
    (k0_pay32 (w01 x0) (k0_pay27 x1) (k0_pay28 (w00 x0) (hd0 x4)) (hd1 x4) mx)
    (k0_pay33 (w01 x0) (k0_pay27 x1) (k0_pay28 (w00 x0) (hd0 x4)) (hd1 x4) mx) ac

/-- The row of the batch entry at `i` of the widened new keys or values, per head. -/
def row0 (i : grid0.Coords) (h : k0_cond3 i = 1#1) (x : Vec F S2x32x128 .f32) : Vec F S1x1x128 .f32 :=
  View.ld x (Rect.unit (k0_off1 i) ![1, 1, 128] (k0_off1_inb i h))
def row1 (i : grid0.Coords) (h : k0_cond3 i = 1#1) (x : Vec F S2x32x128 .f32) : Vec F S1x1x128 .f32 :=
  View.ld x (Rect.unit (k0_off2 i) ![1, 1, 128] (k0_off2_inb i h))

/-- The result block: the running state with the new token added, the two halves merged, divided by the sum. -/
def yOut (i : grid0.Coords) (h : k0_cond3 i = 1#1) (x1 : Vec F S1x16x128 .f32) (kw vw : Vec F S2x32x128 .f32)
    (mx sm : Vec F S16x1 .f32) (ac : Vec F S16x256 .f32) : Vec F S1x16x128 .f32 :=
  k0_pay4 (iota .tc S16x128 32 [0] iota_S16x128_d0_w32) (k0_pay14 (row0 i h vw) (row1 i h vw))
    (k0_pay17 (k0_pay26 x1) (row0 i h kw) (row1 i h kw) mx)
    (k0_pay18 (k0_pay26 x1) (row0 i h kw) (row1 i h kw) mx)
    (k0_pay19 (k0_pay26 x1) (row0 i h kw) (row1 i h kw) mx sm) ac

/-! ## Whole-buffer loads and stores -/

/-- A whole load of a whole buffer reads what it holds. -/
theorem ld_16x1 (X : Vec F S16x1 .f32) (inb) : View.ld X (Rect.unit (s := S16x1) ![0, 0] ![16, 1] inb) = X :=
  View.ld_unit_zero (by funext a; fin_cases a <;> rfl) inb X
theorem ld_16x256 (X : Vec F S16x256 .f32) (inb) : View.ld X (Rect.unit (s := S16x256) ![0, 0] ![16, 256] inb) = X :=
  View.ld_unit_zero (by funext a; fin_cases a <;> rfl) inb X
theorem ld_1x16x128 (X : Vec F S1x16x128 .f32) (inb) : View.ld X (Rect.unit (s := S1x16x128) ![0, 0, 0] ![1, 16, 128] inb) = X :=
  View.ld_unit_zero (by funext a; fin_cases a <;> rfl) inb X
/-- A whole load after a whole store reads what was stored. -/
theorem cov_16x1 {sp : Space} (v : View sig .tc sp S16x1 .f32) (inb inb') (w : Vec F S16x1 .f32) (L : List (View.Piece (Elt F) S16x1 .f32)) :
    v.readCov ((⟨Rect.unit (s := S16x1) ![0, 0] ![16, 1] inb, w⟩ : View.Piece (Elt F) S16x1 .f32) :: L) (Rect.unit (s := S16x1) ![0, 0] ![16, 1] inb').toLoadRect = w :=
  View.readCov_full v inb' inb w L
theorem cov_16x256 {sp : Space} (v : View sig .tc sp S16x256 .f32) (inb inb') (w : Vec F S16x256 .f32) (L : List (View.Piece (Elt F) S16x256 .f32)) :
    v.readCov ((⟨Rect.unit (s := S16x256) ![0, 0] ![16, 256] inb, w⟩ : View.Piece (Elt F) S16x256 .f32) :: L) (Rect.unit (s := S16x256) ![0, 0] ![16, 256] inb').toLoadRect = w :=
  View.readCov_full v inb' inb w L

end Cert.Kernel.Hand

end
-- ==== Proof.PRunA.lean ====
module

public import proofs.«01_k».proof.Proof.PBody

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- At the grid's first point the body also codes the new keys and values and reads them back. -/
theorem run_A (c : Dev nD) (i : grid0.Coords) (arg2 : Memref sig .tc .smem S4x2 .f32) (harg2 : arg2.IsWhole) (arg3 : Memref sig .tc .vmem S1x16x128 .f32) (harg3 : arg3.IsWhole) (arg4 : Memref sig .tc .vmem S2x32x128 .f32) (harg4 : arg4.IsWhole) (arg5 : Memref sig .tc .vmem S2x32x128 .f32) (harg5 : arg5.IsWhole) (arg6 : Memref sig .tc .vmem S1x2x4096x128 .fp8e4m3) (harg6 : arg6.IsWhole) (arg7 : Memref sig .tc .vmem S1x2x4096x128 .fp8e4m3) (harg7 : arg7.IsWhole) (arg8 : Memref sig .tc .vmem S1x16x128 .f32) (harg8 : arg8.IsWhole) (arg9 : Memref sig .tc .vmem S2x32x128 .fp8e4m3) (harg9 : arg9.IsWhole) (arg10 : Memref sig .tc .vmem S2x32x128 .fp8e4m3) (harg10 : arg10.IsWhole) (arg11 : Memref sig .tc .vmem S2x32x128 .f32) (harg11 : arg11.IsWhole) (arg12 : Memref sig .tc .vmem S2x32x128 .f32) (harg12 : arg12.IsWhole) (arg13 : Memref sig .tc .vmem S16x1 .f32) (harg13 : arg13.IsWhole) (arg14 : Memref sig .tc .vmem S16x1 .f32) (harg14 : arg14.IsWhole) (arg15 : Memref sig .tc .vmem S16x256 .f32) (harg15 : arg15.IsWhole)
    (hc0 : cond0_0 i) (hc1 : cond0_1 i) (hc2 : ¬cond0_2 i)
    (x0 : Vec F S4x2 .f32) (x1 : Vec F S1x16x128 .f32) (x2 : Vec F S2x32x128 .f32) (x3 : Vec F S2x32x128 .f32) (x4 : Vec F S1x2x4096x128 .fp8e4m3) (x5 : Vec F S1x2x4096x128 .fp8e4m3) (y : Vec F S1x16x128 .f32) (kc : Vec F S2x32x128 .fp8e4m3) (vc : Vec F S2x32x128 .fp8e4m3) (kw : Vec F S2x32x128 .f32) (vw : Vec F S2x32x128 .f32) (mx : Vec F S16x1 .f32) (sm : Vec F S16x1 .f32) (ac : Vec F S16x256 .f32)
    (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y ∗ owns (c : Thread nD τ) arg9 fullShare kc ∗ owns (c : Thread nD τ) arg10 fullShare vc ∗ owns (c : Thread nD τ) arg11 fullShare kw ∗ owns (c : Thread nD τ) arg12 fullShare vw ∗ owns (c : Thread nD τ) arg13 fullShare mx ∗ owns (c : Thread nD τ) arg14 fullShare sm ∗ owns (c : Thread nD τ) arg15 fullShare ac
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y ∗ owns (c : Thread nD τ) arg9 fullShare (kCodes x0 x2) ∗ owns (c : Thread nD τ) arg10 fullShare (vCodes x0 x3) ∗ owns (c : Thread nD τ) arg11 fullShare (kWide x0 x2) ∗ owns (c : Thread nD τ) arg12 fullShare (vWide x0 x3) ∗ owns (c : Thread nD τ) arg13 fullShare (mNext x0 x1 x4 (k0_pay23 (F := F))) ∗ owns (c : Thread nD τ) arg14 fullShare (sNext x0 x1 x4 (k0_pay23 (F := F)) (k0_pay24 (F := F))) ∗ owns (c : Thread nD τ) arg15 fullShare (aNext x0 x1 x4 x5 (k0_pay23 (F := F)) (k0_pay25 (F := F)))) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  simp only [k0_part4_eq_skeleton, k0_part1_eq_skeleton, k0_part2_eq_skeleton, k0_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc0 | sl_exact hc1 | sl_exact hc2)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; refine (View.read_writes_eq_canon _ _ _ ?_).trans ?_
    · exact View.cover_of_tiledL _ S1x32x128.size (by sl_kernel_rfl)
    sl_unfold_run_names; simp only [View.readAt_eq_ld, Memref.IsWhole.read_unread]; rfl
  isplitl [H10]
  · iexists _; isplitr; swap; · iexact H10
    ipureintro; refine (View.read_writes_eq_canon _ _ _ ?_).trans ?_
    · exact View.cover_of_tiledL _ S1x32x128.size (by sl_kernel_rfl)
    sl_unfold_run_names; simp only [View.readAt_eq_ld, Memref.IsWhole.read_unread]; rfl
  isplitl [H11]
  · iexists _; isplitr; swap; · iexact H11
    ipureintro; refine (View.read_writes_eq_canon _ _ _ ?_).trans ?_
    · exact View.cover_of_tiledL _ S1x32x128.size (by sl_kernel_rfl)
    sl_unfold_run_names; simp only [View.readAt_eq_ld, Memref.IsWhole.read_unread]; rfl
  isplitl [H12]
  · iexists _; isplitr; swap; · iexact H12
    ipureintro; refine (View.read_writes_eq_canon _ _ _ ?_).trans ?_
    · exact View.cover_of_tiledL _ S1x32x128.size (by sl_kernel_rfl)
    sl_unfold_run_names; simp only [View.readAt_eq_ld, Memref.IsWhole.read_unread]; rfl
  isplitl [H13]
  · iexists _; isplitr; swap; · iexact H13
    ipureintro; refine (View.read_writes_full _ _ _ _ _).trans ?_; sl_unfold_run_names; simp only [View.readAt_eq_ld, Memref.IsWhole.read_unread, ld_16x1, ld_16x256, ld_1x16x128, cov_16x1, cov_16x256]; rfl
  isplitl [H14]
  · iexists _; isplitr; swap; · iexact H14
    ipureintro; refine (View.read_writes_full _ _ _ _ _).trans ?_; sl_unfold_run_names; simp only [View.readAt_eq_ld, Memref.IsWhole.read_unread, ld_16x1, ld_16x256, ld_1x16x128, cov_16x1, cov_16x256]; rfl
  iexists _; isplitr; swap; · iexact H15
  ipureintro; refine (View.read_writes_full _ _ _ _ _).trans ?_; sl_unfold_run_names; simp only [View.readAt_eq_ld, Memref.IsWhole.read_unread, ld_16x1, ld_16x256, ld_1x16x128, cov_16x1, cov_16x256]; rfl

end Cert.Kernel.Hand

end
-- ==== Proof.PRunB.lean ====
module

public import proofs.«01_k».proof.Proof.PBody

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- At a middle block the body advances the running maximum, sum and weighted sum and leaves every other buffer as it was. -/
theorem run_B (c : Dev nD) (i : grid0.Coords) (arg2 : Memref sig .tc .smem S4x2 .f32) (harg2 : arg2.IsWhole) (arg3 : Memref sig .tc .vmem S1x16x128 .f32) (harg3 : arg3.IsWhole) (arg4 : Memref sig .tc .vmem S2x32x128 .f32) (harg4 : arg4.IsWhole) (arg5 : Memref sig .tc .vmem S2x32x128 .f32) (harg5 : arg5.IsWhole) (arg6 : Memref sig .tc .vmem S1x2x4096x128 .fp8e4m3) (harg6 : arg6.IsWhole) (arg7 : Memref sig .tc .vmem S1x2x4096x128 .fp8e4m3) (harg7 : arg7.IsWhole) (arg8 : Memref sig .tc .vmem S1x16x128 .f32) (harg8 : arg8.IsWhole) (arg9 : Memref sig .tc .vmem S2x32x128 .fp8e4m3) (harg9 : arg9.IsWhole) (arg10 : Memref sig .tc .vmem S2x32x128 .fp8e4m3) (harg10 : arg10.IsWhole) (arg11 : Memref sig .tc .vmem S2x32x128 .f32) (harg11 : arg11.IsWhole) (arg12 : Memref sig .tc .vmem S2x32x128 .f32) (harg12 : arg12.IsWhole) (arg13 : Memref sig .tc .vmem S16x1 .f32) (harg13 : arg13.IsWhole) (arg14 : Memref sig .tc .vmem S16x1 .f32) (harg14 : arg14.IsWhole) (arg15 : Memref sig .tc .vmem S16x256 .f32) (harg15 : arg15.IsWhole)
    (hc0 : ¬cond0_0 i) (hc1 : ¬cond0_1 i) (hc2 : ¬cond0_2 i)
    (x0 : Vec F S4x2 .f32) (x1 : Vec F S1x16x128 .f32) (x2 : Vec F S2x32x128 .f32) (x3 : Vec F S2x32x128 .f32) (x4 : Vec F S1x2x4096x128 .fp8e4m3) (x5 : Vec F S1x2x4096x128 .fp8e4m3) (y : Vec F S1x16x128 .f32) (kc : Vec F S2x32x128 .fp8e4m3) (vc : Vec F S2x32x128 .fp8e4m3) (kw : Vec F S2x32x128 .f32) (vw : Vec F S2x32x128 .f32) (mx : Vec F S16x1 .f32) (sm : Vec F S16x1 .f32) (ac : Vec F S16x256 .f32)
    (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y ∗ owns (c : Thread nD τ) arg9 fullShare kc ∗ owns (c : Thread nD τ) arg10 fullShare vc ∗ owns (c : Thread nD τ) arg11 fullShare kw ∗ owns (c : Thread nD τ) arg12 fullShare vw ∗ owns (c : Thread nD τ) arg13 fullShare mx ∗ owns (c : Thread nD τ) arg14 fullShare sm ∗ owns (c : Thread nD τ) arg15 fullShare ac
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y ∗ owns (c : Thread nD τ) arg9 fullShare kc ∗ owns (c : Thread nD τ) arg10 fullShare vc ∗ owns (c : Thread nD τ) arg11 fullShare kw ∗ owns (c : Thread nD τ) arg12 fullShare vw ∗ owns (c : Thread nD τ) arg13 fullShare (mNext x0 x1 x4 mx) ∗ owns (c : Thread nD τ) arg14 fullShare (sNext x0 x1 x4 mx sm) ∗ owns (c : Thread nD τ) arg15 fullShare (aNext x0 x1 x4 x5 mx ac)) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  simp only [k0_part4_eq_skeleton, k0_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc0 | sl_exact hc1 | sl_exact hc2)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; refine (View.read_writes_full _ _ _ _ _).trans ?_; sl_unfold_run_names; simp only [View.readAt_eq_ld, Memref.IsWhole.read_unread, ld_16x1, ld_16x256, ld_1x16x128, cov_16x1, cov_16x256]; rfl
  isplitl [H14]
  · iexists _; isplitr; swap; · iexact H14
    ipureintro; refine (View.read_writes_full _ _ _ _ _).trans ?_; sl_unfold_run_names; simp only [View.readAt_eq_ld, Memref.IsWhole.read_unread, ld_16x1, ld_16x256, ld_1x16x128, cov_16x1, cov_16x256]; rfl
  iexists _; isplitr; swap; · iexact H15
  ipureintro; refine (View.read_writes_full _ _ _ _ _).trans ?_; sl_unfold_run_names; simp only [View.readAt_eq_ld, Memref.IsWhole.read_unread, ld_16x1, ld_16x256, ld_1x16x128, cov_16x1, cov_16x256]; rfl

end Cert.Kernel.Hand

end
-- ==== Proof.PRunC.lean ====
module

public import proofs.«01_k».proof.Proof.PBody

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- At a last block the body advances the running state and stores the result block. -/
theorem run_C (c : Dev nD) (i : grid0.Coords) (arg2 : Memref sig .tc .smem S4x2 .f32) (harg2 : arg2.IsWhole) (arg3 : Memref sig .tc .vmem S1x16x128 .f32) (harg3 : arg3.IsWhole) (arg4 : Memref sig .tc .vmem S2x32x128 .f32) (harg4 : arg4.IsWhole) (arg5 : Memref sig .tc .vmem S2x32x128 .f32) (harg5 : arg5.IsWhole) (arg6 : Memref sig .tc .vmem S1x2x4096x128 .fp8e4m3) (harg6 : arg6.IsWhole) (arg7 : Memref sig .tc .vmem S1x2x4096x128 .fp8e4m3) (harg7 : arg7.IsWhole) (arg8 : Memref sig .tc .vmem S1x16x128 .f32) (harg8 : arg8.IsWhole) (arg9 : Memref sig .tc .vmem S2x32x128 .fp8e4m3) (harg9 : arg9.IsWhole) (arg10 : Memref sig .tc .vmem S2x32x128 .fp8e4m3) (harg10 : arg10.IsWhole) (arg11 : Memref sig .tc .vmem S2x32x128 .f32) (harg11 : arg11.IsWhole) (arg12 : Memref sig .tc .vmem S2x32x128 .f32) (harg12 : arg12.IsWhole) (arg13 : Memref sig .tc .vmem S16x1 .f32) (harg13 : arg13.IsWhole) (arg14 : Memref sig .tc .vmem S16x1 .f32) (harg14 : arg14.IsWhole) (arg15 : Memref sig .tc .vmem S16x256 .f32) (harg15 : arg15.IsWhole)
    (hc0 : ¬cond0_0 i) (hc1 : ¬cond0_1 i) (hc2 : cond0_2 i)
    (x0 : Vec F S4x2 .f32) (x1 : Vec F S1x16x128 .f32) (x2 : Vec F S2x32x128 .f32) (x3 : Vec F S2x32x128 .f32) (x4 : Vec F S1x2x4096x128 .fp8e4m3) (x5 : Vec F S1x2x4096x128 .fp8e4m3) (y : Vec F S1x16x128 .f32) (kc : Vec F S2x32x128 .fp8e4m3) (vc : Vec F S2x32x128 .fp8e4m3) (kw : Vec F S2x32x128 .f32) (vw : Vec F S2x32x128 .f32) (mx : Vec F S16x1 .f32) (sm : Vec F S16x1 .f32) (ac : Vec F S16x256 .f32)
    (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y ∗ owns (c : Thread nD τ) arg9 fullShare kc ∗ owns (c : Thread nD τ) arg10 fullShare vc ∗ owns (c : Thread nD τ) arg11 fullShare kw ∗ owns (c : Thread nD τ) arg12 fullShare vw ∗ owns (c : Thread nD τ) arg13 fullShare mx ∗ owns (c : Thread nD τ) arg14 fullShare sm ∗ owns (c : Thread nD τ) arg15 fullShare ac
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (yOut i hc2 x1 kw vw (mNext x0 x1 x4 mx) (sNext x0 x1 x4 mx sm) (aNext x0 x1 x4 x5 mx ac)) ∗ owns (c : Thread nD τ) arg9 fullShare kc ∗ owns (c : Thread nD τ) arg10 fullShare vc ∗ owns (c : Thread nD τ) arg11 fullShare kw ∗ owns (c : Thread nD τ) arg12 fullShare vw ∗ owns (c : Thread nD τ) arg13 fullShare (mNext x0 x1 x4 mx) ∗ owns (c : Thread nD τ) arg14 fullShare (sNext x0 x1 x4 mx sm) ∗ owns (c : Thread nD τ) arg15 fullShare (aNext x0 x1 x4 x5 mx ac)) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  simp only [k0_part4_eq_skeleton, k0_part5_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc0 | sl_exact hc1 | sl_exact hc2)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; refine (View.read_writes_full _ _ _ _ _).trans ?_; sl_unfold_run_names; simp only [View.readAt_eq_ld, Memref.IsWhole.read_unread, ld_16x1, ld_16x256, ld_1x16x128, cov_16x1, cov_16x256]; rfl
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; refine (View.read_writes_full _ _ _ _ _).trans ?_; sl_unfold_run_names; simp only [View.readAt_eq_ld, Memref.IsWhole.read_unread, ld_16x1, ld_16x256, ld_1x16x128, cov_16x1, cov_16x256]; rfl
  isplitl [H14]
  · iexists _; isplitr; swap; · iexact H14
    ipureintro; refine (View.read_writes_full _ _ _ _ _).trans ?_; sl_unfold_run_names; simp only [View.readAt_eq_ld, Memref.IsWhole.read_unread, ld_16x1, ld_16x256, ld_1x16x128, cov_16x1, cov_16x256]; rfl
  iexists _; isplitr; swap; · iexact H15
  ipureintro; refine (View.read_writes_full _ _ _ _ _).trans ?_; sl_unfold_run_names; simp only [View.readAt_eq_ld, Memref.IsWhole.read_unread, ld_16x1, ld_16x256, ld_1x16x128, cov_16x1, cov_16x256]; rfl

end Cert.Kernel.Hand

end
-- ==== Proof.PRunD.lean ====
module

public import proofs.«01_k».proof.Proof.PBody

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- At a first block (not the grid's first) the body starts the running state afresh. -/
theorem run_D (c : Dev nD) (i : grid0.Coords) (arg2 : Memref sig .tc .smem S4x2 .f32) (harg2 : arg2.IsWhole) (arg3 : Memref sig .tc .vmem S1x16x128 .f32) (harg3 : arg3.IsWhole) (arg4 : Memref sig .tc .vmem S2x32x128 .f32) (harg4 : arg4.IsWhole) (arg5 : Memref sig .tc .vmem S2x32x128 .f32) (harg5 : arg5.IsWhole) (arg6 : Memref sig .tc .vmem S1x2x4096x128 .fp8e4m3) (harg6 : arg6.IsWhole) (arg7 : Memref sig .tc .vmem S1x2x4096x128 .fp8e4m3) (harg7 : arg7.IsWhole) (arg8 : Memref sig .tc .vmem S1x16x128 .f32) (harg8 : arg8.IsWhole) (arg9 : Memref sig .tc .vmem S2x32x128 .fp8e4m3) (harg9 : arg9.IsWhole) (arg10 : Memref sig .tc .vmem S2x32x128 .fp8e4m3) (harg10 : arg10.IsWhole) (arg11 : Memref sig .tc .vmem S2x32x128 .f32) (harg11 : arg11.IsWhole) (arg12 : Memref sig .tc .vmem S2x32x128 .f32) (harg12 : arg12.IsWhole) (arg13 : Memref sig .tc .vmem S16x1 .f32) (harg13 : arg13.IsWhole) (arg14 : Memref sig .tc .vmem S16x1 .f32) (harg14 : arg14.IsWhole) (arg15 : Memref sig .tc .vmem S16x256 .f32) (harg15 : arg15.IsWhole)
    (hc0 : ¬cond0_0 i) (hc1 : cond0_1 i) (hc2 : ¬cond0_2 i)
    (x0 : Vec F S4x2 .f32) (x1 : Vec F S1x16x128 .f32) (x2 : Vec F S2x32x128 .f32) (x3 : Vec F S2x32x128 .f32) (x4 : Vec F S1x2x4096x128 .fp8e4m3) (x5 : Vec F S1x2x4096x128 .fp8e4m3) (y : Vec F S1x16x128 .f32) (kc : Vec F S2x32x128 .fp8e4m3) (vc : Vec F S2x32x128 .fp8e4m3) (kw : Vec F S2x32x128 .f32) (vw : Vec F S2x32x128 .f32) (mx : Vec F S16x1 .f32) (sm : Vec F S16x1 .f32) (ac : Vec F S16x256 .f32)
    (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y ∗ owns (c : Thread nD τ) arg9 fullShare kc ∗ owns (c : Thread nD τ) arg10 fullShare vc ∗ owns (c : Thread nD τ) arg11 fullShare kw ∗ owns (c : Thread nD τ) arg12 fullShare vw ∗ owns (c : Thread nD τ) arg13 fullShare mx ∗ owns (c : Thread nD τ) arg14 fullShare sm ∗ owns (c : Thread nD τ) arg15 fullShare ac
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y ∗ owns (c : Thread nD τ) arg9 fullShare kc ∗ owns (c : Thread nD τ) arg10 fullShare vc ∗ owns (c : Thread nD τ) arg11 fullShare kw ∗ owns (c : Thread nD τ) arg12 fullShare vw ∗ owns (c : Thread nD τ) arg13 fullShare (mNext x0 x1 x4 (k0_pay23 (F := F))) ∗ owns (c : Thread nD τ) arg14 fullShare (sNext x0 x1 x4 (k0_pay23 (F := F)) (k0_pay24 (F := F))) ∗ owns (c : Thread nD τ) arg15 fullShare (aNext x0 x1 x4 x5 (k0_pay23 (F := F)) (k0_pay25 (F := F)))) -∗ K ⟨⟩))
      ⊢ wp frame (wpE (defs₀ (F := F)) Variants.none c none) E (cc0__attn_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__attn_kernel_eq_skeleton]; unfold cc0__attn_kernel_skel
  simp only [k0_part4_eq_skeleton, k0_part5_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  sl_exec (disch := first | sl_exact hc0 | sl_exact hc1 | sl_exact hc2)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; refine (View.read_writes_full _ _ _ _ _).trans ?_; sl_unfold_run_names; simp only [View.readAt_eq_ld, Memref.IsWhole.read_unread, ld_16x1, ld_16x256, ld_1x16x128, cov_16x1, cov_16x256]; rfl
  isplitl [H14]
  · iexists _; isplitr; swap; · iexact H14
    ipureintro; refine (View.read_writes_full _ _ _ _ _).trans ?_; sl_unfold_run_names; simp only [View.readAt_eq_ld, Memref.IsWhole.read_unread, ld_16x1, ld_16x256, ld_1x16x128, cov_16x1, cov_16x256]; rfl
  iexists _; isplitr; swap; · iexact H15
  ipureintro; refine (View.read_writes_full _ _ _ _ _).trans ?_; sl_unfold_run_names; simp only [View.readAt_eq_ld, Memref.IsWhole.read_unread, ld_16x1, ld_16x256, ld_1x16x128, cov_16x1, cov_16x256]; rfl

end Cert.Kernel.Hand

end
-- ==== Proof.PFrame.lean ====
module

public import proofs.«01_k».proof.Proof.PRunA
public import proofs.«01_k».proof.Proof.PRunB
public import proofs.«01_k».proof.Proof.PRunC
public import proofs.«01_k».proof.Proof.PRunD
public import Idealize.ShloMosaic.Lib.Pipeline.TableIdle

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What the buffers hold after each point -/

/-- The running state: maximum, sum, weighted sum. -/
abbrev St (F : FTy → Type) : Type := Vec F S16x1 .f32 × Vec F S16x1 .f32 × Vec F S16x256 .f32

/-- The state a first block starts from. -/
def start : St F := (k0_pay23 (F := F), k0_pay24 (F := F), k0_pay25 (F := F))

/-- One block's step at point `t`. -/
def step (c : Dev nD) (t : Fin cfg0.N) (s : St F) : St F :=
  (mNext (iblk m c 0 t) (iblk m c 1 t) (iblk m c 4 t) s.1,
   sNext (iblk m c 0 t) (iblk m c 1 t) (iblk m c 4 t) s.1 s.2.1,
   aNext (iblk m c 0 t) (iblk m c 1 t) (iblk m c 4 t) (iblk m c 5 t) s.1 s.2.2)

/-- The running state after the body at position `n`: every fourth point starts afresh. -/
def stAt (c : Dev nD) : (n : ℕ) → n < cfg0.N → St F
  | 0, h => step m c ⟨0, h⟩ start
  | n + 1, h => step m c ⟨n + 1, h⟩ (if (n + 1) % 4 = 0 then start else stAt c n (Nat.lt_of_succ_lt h))

theorem stAt_first (c : Dev nD) (t : Fin cfg0.N) (h : t.val % 4 = 0) : stAt m c t.val t.isLt = step m c t start := by
  obtain ⟨n, hn⟩ := t
  cases n with
  | zero => rfl
  | succ n => simp only [stAt]; rw [if_pos h]

theorem stAt_next (c : Dev nD) (t : Fin cfg0.N) (h : ¬t.val % 4 = 0) :
    stAt m c t.val t.isLt = step m c t (stAt m c (t.val - 1) (Nat.lt_of_le_of_lt (Nat.sub_le _ _) t.isLt)) := by
  obtain ⟨n, hn⟩ := t
  cases n with
  | zero => exact absurd (Nat.zero_mod _) h
  | succ n => simp only [stAt]; rw [if_neg h]; rfl

/-- The grid's first point. -/
def p0 : Fin cfg0.N := ⟨0, by rw [show cfg0.N = 128 from N_0]; decide⟩

/-- The codes and the widened new keys and values, all made at the grid's first point. -/
def kcAt (c : Dev nD) : Vec F S2x32x128 .fp8e4m3 := kCodes (iblk m c 0 p0) (iblk m c 2 p0)
def vcAt (c : Dev nD) : Vec F S2x32x128 .fp8e4m3 := vCodes (iblk m c 0 p0) (iblk m c 3 p0)
def kwAt (c : Dev nD) : Vec F S2x32x128 .f32 := kWide (iblk m c 0 p0) (iblk m c 2 p0)
def vwAt (c : Dev nD) : Vec F S2x32x128 .f32 := vWide (iblk m c 0 p0) (iblk m c 3 p0)

/-- The result block at point `t`: stored at a last block; elsewhere a placeholder nothing reads. -/
def yAt (c : Dev nD) (t : Fin cfg0.N) : Vec F S1x16x128 .f32 :=
  if h : k0_cond3 (grid0.coords t) = 1#1 then
    yOut (grid0.coords t) h (iblk m c 1 t) (kwAt m c) (vwAt m c) (stAt m c t.val t.isLt).1 (stAt m c t.val t.isLt).2.1
      (stAt m c t.val t.isLt).2.2
  else iblk m c 1 t

/-! ## The proof data -/

/-- The invariant before position `n`: before the first point the scratch at anything, afterwards the widened new keys
    and values and the running state the point before left. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare (kwAt m c) ∗ owns (c : Thread nD τ) scM0_1 fullShare (vwAt m c) ∗ owns (c : Thread nD τ) scM0_2 fullShare (stAt m c n hn).1 ∗ owns (c : Thread nD τ) scM0_3 fullShare (stAt m c n hn).2.1 ∗ owns (c : Thread nD τ) scM0_4 fullShare (stAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (kwAt m c) ∗ owns (c : Thread nD τ) scM0_1 fullShare (vwAt m c) ∗ owns (c : Thread nD τ) scM0_2 fullShare (stAt m c n hn).1 ∗ owns (c : Thread nD τ) scM0_3 fullShare (stAt m c n hn).2.1 ∗ owns (c : Thread nD τ) scM0_4 fullShare (stAt m c n hn).2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (kwAt m c) ∗ owns (c : Thread nD τ) scM0_1 fullShare (vwAt m c) ∗ owns (c : Thread nD τ) scM0_2 fullShare (stAt m c (n - 1) (by omega)).1 ∗ owns (c : Thread nD τ) scM0_3 fullShare (stAt m c (n - 1) (by omega)).2.1 ∗ owns (c : Thread nD τ) scM0_4 fullShare (stAt m c (n - 1) (by omega)).2.2) ∗ (∃ r, prngReg c r)) := by
  cases n with
  | zero => exact absurd rfl hz
  | succ n => rfl

/-- The proof data of the pipeline: each input's buffer at its block, the outputs' at the values above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yAt m c t
    | ⟨7, _⟩ => kcAt m c
    | ⟨8, _⟩ => vcAt m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = yAt m c t := by dsimp only [dats]
theorem after0_7 (c : Dev nD) (t : Fin cfg0.N) : (dats m 0 c).after 7 t = kcAt m c := by dsimp only [dats]
theorem after0_8 (c : Dev nD) (t : Fin cfg0.N) : (dats m 0 c).after 8 t = vcAt m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Output 7's buffer holds what the first point stored, and what is written back into it, from the second point on. -/
theorem fresh0_7 : ∀ n, n ≤ cfg0.N → cfg0.fresh 7 n = (n == 0 || n == 128) :=
  cfg0.fresh_tab 7 (fun n => n == 0 || n == 128) rfl fun t => by
    have hN : t.val < 128 := lt_of_lt_of_eq t.isLt (show cfg0.N = 128 from N_0)
    rw [flush0_7 t]
    by_cases hc : cond0_0 (grid0.coords t)
    · have h0 : t.val % 128 = 0 := (hcond0_0 t).mp hc
      have hz : t.val = 0 := by omega
      rw [liveAt0_7_A t hc, hz]; decide
    · have h0 : ¬t.val % 128 = 0 := fun h => hc ((hcond0_0 t).mpr h)
      have hz : t.val ≠ 0 := by omega
      rw [idleAt0_7 t hc]
      simp [hz]
      omega

theorem before0_7 (c : Dev nD) (t : Fin cfg0.N) (hz : t.val ≠ 0) (d) : (dats m 0 c).before 7 t d = kcAt m c := by
  have hN : t.val < 128 := lt_of_lt_of_eq t.isLt (show cfg0.N = 128 from N_0)
  rw [(dats m 0 c).before_out_traj 7 rfl (fun _ _ => rfl) (fun t _ _ _ => by rw [after0_7, after0_7]) t.val t rfl d,
    fresh0_7 t.val (Nat.le_of_lt t.isLt), after0_7]
  have : (t.val == 0 || t.val == 128) = false := by simp; omega
  rw [this]; rfl

theorem leaves0_7 (c : Dev nD) (t : Fin cfg0.N) (hz : t.val ≠ 0) (d : (cfg0.win 7).block.Idx → Elt F (cfg0.win 7).elt) :
    owns (c : Thread nD τ) (ms0_7 t) fullShare (kcAt m c) ⊢ (dats m 0 c).leavesExact 7 t := by
  have hN : t.val < 128 := lt_of_lt_of_eq t.isLt (show cfg0.N = 128 from N_0)
  have hi : cfg0.idle 7 (grid0.coords t) = true := idleAt0_7 t fun h => by have := (hcond0_0 t).mp h; omega
  by_cases hl : t.val = 127
  · have hf : (cfg0.win 7).flush t = true := by rw [flush0_7 t, hl]; rfl
    rw [show (dats m 0 c).leavesExact 7 t = owns (c : Thread nD τ) (ms0_7 t) fullShare ((dats m 0 c).after 7 t) from by
      unfold Dat.leavesExact; rw [hi, hf], after0_7]
    try exact Idealize.SL.BI.Entails.refl _
  · have hf : (cfg0.win 7).flush t = false := by rw [flush0_7 t]; simpa using hl
    rw [Dat.leavesExact_idle (dats m 0 c) 7 t hi hf]
    iintro H
    iexists d
    rw [before0_7 m c t hz d]
    iexact H

/-- Output 8's buffer holds what the first point stored, and what is written back into it, from the second point on. -/
theorem fresh0_8 : ∀ n, n ≤ cfg0.N → cfg0.fresh 8 n = (n == 0 || n == 128) :=
  cfg0.fresh_tab 8 (fun n => n == 0 || n == 128) rfl fun t => by
    have hN : t.val < 128 := lt_of_lt_of_eq t.isLt (show cfg0.N = 128 from N_0)
    rw [flush0_8 t]
    by_cases hc : cond0_0 (grid0.coords t)
    · have h0 : t.val % 128 = 0 := (hcond0_0 t).mp hc
      have hz : t.val = 0 := by omega
      rw [liveAt0_8_A t hc, hz]; decide
    · have h0 : ¬t.val % 128 = 0 := fun h => hc ((hcond0_0 t).mpr h)
      have hz : t.val ≠ 0 := by omega
      rw [idleAt0_8 t hc]
      simp [hz]
      omega

theorem before0_8 (c : Dev nD) (t : Fin cfg0.N) (hz : t.val ≠ 0) (d) : (dats m 0 c).before 8 t d = vcAt m c := by
  have hN : t.val < 128 := lt_of_lt_of_eq t.isLt (show cfg0.N = 128 from N_0)
  rw [(dats m 0 c).before_out_traj 8 rfl (fun _ _ => rfl) (fun t _ _ _ => by rw [after0_8, after0_8]) t.val t rfl d,
    fresh0_8 t.val (Nat.le_of_lt t.isLt), after0_8]
  have : (t.val == 0 || t.val == 128) = false := by simp; omega
  rw [this]; rfl

theorem leaves0_8 (c : Dev nD) (t : Fin cfg0.N) (hz : t.val ≠ 0) (d : (cfg0.win 8).block.Idx → Elt F (cfg0.win 8).elt) :
    owns (c : Thread nD τ) (ms0_8 t) fullShare (vcAt m c) ⊢ (dats m 0 c).leavesExact 8 t := by
  have hN : t.val < 128 := lt_of_lt_of_eq t.isLt (show cfg0.N = 128 from N_0)
  have hi : cfg0.idle 8 (grid0.coords t) = true := idleAt0_8 t fun h => by have := (hcond0_0 t).mp h; omega
  by_cases hl : t.val = 127
  · have hf : (cfg0.win 8).flush t = true := by rw [flush0_8 t, hl]; rfl
    rw [show (dats m 0 c).leavesExact 8 t = owns (c : Thread nD τ) (ms0_8 t) fullShare ((dats m 0 c).after 8 t) from by
      unfold Dat.leavesExact; rw [hi, hf], after0_8]
    try exact Idealize.SL.BI.Entails.refl _
  · have hf : (cfg0.win 8).flush t = false := by rw [flush0_8 t]; simpa using hl
    rw [Dat.leavesExact_idle (dats m 0 c) 8 t hi hf]
    iintro H
    iexists d
    rw [before0_8 m c t hz d]
    iexact H

/-! ## The body obligation -/

/-- What the body is called with at point `t`, window by window, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

theorem leaves0_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves0_4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]
theorem leaves0_5 (c : Dev nD) (t : Fin cfg0.N) : (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [liveAt0_5 t], after0_5]

set_option maxHeartbeats 4000000 in
/-- The body at a point of case A. -/
theorem sound_A (c : Dev nD) (t : Fin cfg0.N) (h0 : t.val % 128 = 0) (h1 : t.val % 4 = 0) (h2 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [leaves0_0, leaves0_1, leaves0_2, leaves0_3, leaves0_4, leaves0_5]
  rw [Dat.leavesExact_idle (dats m 0 c) 6 t (idleAt0_6_A t ((hcond0_0 t).mpr h0) ((hcond0_1 t).mpr h1) (fun h => h2 ((hcond0_2 t).mp h))) (noFlush0_6_A t ((hcond0_0 t).mpr h0) ((hcond0_1 t).mpr h1) (fun h => h2 ((hcond0_2 t).mp h)))]
  have hz : t.val = 0 := by omega
  obtain rfl : t = p0 := Fin.ext hz
  rw [show (dats m 0 c).leavesExact 7 p0 = owns (c : Thread nD τ) (ms0_7 p0) fullShare ((dats m 0 c).after 7 p0) from by
    unfold Dat.leavesExact; rw [liveAt0_7_A p0 ((hcond0_0 p0).mpr h0)], after0_7]
  rw [show (dats m 0 c).leavesExact 8 p0 = owns (c : Thread nD τ) (ms0_8 p0) fullShare ((dats m 0 c).after 8 p0) from by
    unfold Dat.leavesExact; rw [liveAt0_8_A p0 ((hcond0_0 p0).mpr h0)], after0_8]
  rw [PhiS_castSucc m c p0, PhiS_zero m c _ _ hz, PhiA0_eq, stAt_first m c p0 h1]
  iintro ⟨⟨⟨⟨%s0, HS0⟩, ⟨%s1, HS1⟩, ⟨%s2, HS2⟩, ⟨%s3, HS3⟩, ⟨%s4, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_A c (grid0.coords p0) _ _ _ _ _ _ _ _ _ _ _ _ _ _ _ _ _ _ _ _ _ _ _ _ _ _ _ _ ((hcond0_0 p0).mpr h0) ((hcond0_1 p0).mpr h1) (fun h => h2 ((hcond0_2 p0).mp h)) (iblk m c 0 p0) (iblk m c 1 p0) (iblk m c 2 p0) (iblk m c 3 p0) (iblk m c 4 p0) (iblk m c 5 p0) _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iexact H8

set_option maxHeartbeats 4000000 in
/-- The body at a point of case B. -/
theorem sound_B (c : Dev nD) (t : Fin cfg0.N) (h0 : ¬t.val % 128 = 0) (h1 : ¬t.val % 4 = 0) (h2 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [leaves0_0, leaves0_1, leaves0_2, leaves0_3, leaves0_4, leaves0_5]
  rw [Dat.leavesExact_idle (dats m 0 c) 6 t (idleAt0_6_B t (fun h => h0 ((hcond0_0 t).mp h)) (fun h => h1 ((hcond0_1 t).mp h)) (fun h => h2 ((hcond0_2 t).mp h))) (noFlush0_6_B t (fun h => h0 ((hcond0_0 t).mp h)) (fun h => h1 ((hcond0_1 t).mp h)) (fun h => h2 ((hcond0_2 t).mp h)))]
  have hz : t.val ≠ 0 := by omega
  rw [PhiS_castSucc m c t, PhiS_pos m c _ _ hz]
  rw [stAt_next m c t h1]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_7 m c t hz d7, before0_8 m c t hz d8]
  iapply (run_B c (grid0.coords t) _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iapply (leaves0_7 m c t hz d7); iexact H7
  iapply (leaves0_8 m c t hz d8); iexact H8

set_option maxHeartbeats 4000000 in
/-- The body at a point of case C. -/
theorem sound_C (c : Dev nD) (t : Fin cfg0.N) (h0 : ¬t.val % 128 = 0) (h1 : ¬t.val % 4 = 0) (h2 : t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [leaves0_0, leaves0_1, leaves0_2, leaves0_3, leaves0_4, leaves0_5]
  rw [show (dats m 0 c).leavesExact 6 t = owns (c : Thread nD τ) (ms0_6 t) fullShare ((dats m 0 c).after 6 t) from by
    unfold Dat.leavesExact; rw [liveAt0_6_C t (fun h => h0 ((hcond0_0 t).mp h)) (fun h => h1 ((hcond0_1 t).mp h)) ((hcond0_2 t).mpr h2)], after0_6, yAt, dif_pos ((hcond0_2 t).mpr h2)]
  have hz : t.val ≠ 0 := by omega
  rw [PhiS_castSucc m c t, PhiS_pos m c _ _ hz]
  rw [stAt_next m c t h1]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_7 m c t hz d7, before0_8 m c t hz d8]
  iapply (run_C c (grid0.coords t) _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves0_7 m c t hz d7); iexact H7
  iapply (leaves0_8 m c t hz d8); iexact H8

set_option maxHeartbeats 4000000 in
/-- The body at a point of case D. -/
theorem sound_D (c : Dev nD) (t : Fin cfg0.N) (h0 : ¬t.val % 128 = 0) (h1 : t.val % 4 = 0) (h2 : ¬t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [leaves0_0, leaves0_1, leaves0_2, leaves0_3, leaves0_4, leaves0_5]
  rw [Dat.leavesExact_idle (dats m 0 c) 6 t (idleAt0_6_D t (fun h => h0 ((hcond0_0 t).mp h)) ((hcond0_1 t).mpr h1) (fun h => h2 ((hcond0_2 t).mp h))) (noFlush0_6_D t (fun h => h0 ((hcond0_0 t).mp h)) ((hcond0_1 t).mpr h1) (fun h => h2 ((hcond0_2 t).mp h)))]
  have hz : t.val ≠ 0 := by omega
  rw [PhiS_castSucc m c t, PhiS_pos m c _ _ hz]
  rw [stAt_first m c t h1]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_7 m c t hz d7, before0_8 m c t hz d8]
  iapply (run_D c (grid0.coords t) _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iapply (leaves0_7 m c t hz d7); iexact H7
  iapply (leaves0_8 m c t hz d8); iexact H8

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 128 = 0
  · exact sound_A m c t h0 (by omega) (by omega)
  · by_cases h1 : t.val % 4 = 0
    · exact sound_D m c t h0 h1 (by omega)
    · by_cases h2 : t.val % 4 = 3
      · exact sound_C m c t h0 h1 h2
      · exact sound_B m c t h0 h1 h2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME, at any reading of the floats: the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Hand

end
-- ==== Proof.Softmax.lean ====
/- The algebra of the streaming softmax over the extended reals: block by block, the running maximum, the running sum of
   exponentials and the running weighted sum are those of the whole prefix. -/
module

public import Idealize.ShloMosaic.PureOps.Ideal
public import Idealize.ShloMosaic.PureOps.Ideal.Laws

@[expose] public section

noncomputable section

namespace Cert.Softmax

open Idealize.ShloMosaic

/-- The exponential of the extended reals. -/
abbrev ex (x : EReal) : EReal := Ideal.exp x

theorem ex_nonneg (x : EReal) : 0 ≤ ex x := by
  induction x with
  | bot => simp [ex]
  | top => simp [ex]
  | coe r => simp only [ex, Ideal.exp_coe]; exact_mod_cast (Real.exp_pos r).le

theorem sub_top (x : EReal) : x - ⊤ = ⊥ := by rw [sub_eq_add_neg, EReal.neg_top, EReal.add_bot]

theorem bot_sub (x : EReal) : ⊥ - x = ⊥ := by rw [sub_eq_add_neg, EReal.bot_add]

/-- The factor a running sum is rescaled by is never infinite. -/
theorem ex_ne_top {a b : EReal} (h : a ≤ b) : ex (a - b) ≠ ⊤ := by
  induction b with
  | top => rw [sub_top]; simp [ex]
  | bot => rw [le_bot_iff.mp h, bot_sub]; simp [ex]
  | coe b =>
    induction a with
    | top => exact absurd h (by simp)
    | bot => rw [bot_sub]; simp [ex]
    | coe a => rw [← EReal.coe_sub]; exact EReal.coe_ne_top _

/-- Rescaling by the change of maximum moves an exponential's reference point. -/
theorem ex_mul_ex {s a b : EReal} (h : s ≤ a) (h' : a ≤ b) : ex (s - a) * ex (a - b) = ex (s - b) := by
  induction b with
  | top => rw [sub_top, sub_top]; simp [ex]
  | bot => rw [le_bot_iff.mp h'] at h ⊢; rw [le_bot_iff.mp h, bot_sub]; simp [ex]
  | coe b =>
    induction a with
    | top => exact absurd h' (by simp)
    | bot => rw [le_bot_iff.mp h, bot_sub, bot_sub]; simp [ex]
    | coe a =>
      induction s with
      | top => exact absurd h (by simp)
      | bot => rw [bot_sub, bot_sub]; simp [ex]
      | coe s =>
        rw [← EReal.coe_sub, ← EReal.coe_sub, ← EReal.coe_sub]
        simp only [ex, Ideal.exp_coe]
        rw [← EReal.coe_mul, ← Real.exp_add]
        congr 2; ring

/-- A nonnegative finite factor distributes over a finite sum. -/
theorem sum_mul_of_nonneg {ι : Type} (S : Finset ι) (f : ι → EReal) {a : EReal} (h0 : 0 ≤ a) (ht : a ≠ ⊤) :
    (∑ i ∈ S, f i) * a = ∑ i ∈ S, f i * a := by
  classical
  induction S using Finset.induction_on with
  | empty => simp
  | insert i S hi ih =>
    rw [Finset.sum_insert hi, Finset.sum_insert hi, EReal.right_distrib_of_nonneg_of_ne_top h0 ht, ih]

/-! ## The streaming state over a prefix -/

/-- The maximum of the first `n` scores. -/
def pm (s : ℕ → EReal) (n : ℕ) : EReal := (Finset.range n).sup s

/-- The sum of the first `n` exponentials at reference point `r`. -/
def ps (s : ℕ → EReal) (r : EReal) (n : ℕ) : EReal := ∑ t ∈ Finset.range n, ex (s t - r)

/-- The weighted sum of the first `n` values at reference point `r`. -/
def pa (s v : ℕ → EReal) (r : EReal) (n : ℕ) : EReal := ∑ t ∈ Finset.range n, ex (s t - r) * v t

theorem le_pm (s : ℕ → EReal) {n t : ℕ} (h : t ∈ Finset.range n) : s t ≤ pm s n := Finset.le_sup h

/-- Rescaled, the sum at the prefix's own maximum is the sum at any later reference point. -/
theorem ps_rescale (s : ℕ → EReal) (n : ℕ) {r : EReal} (h : pm s n ≤ r) :
    ps s (pm s n) n * ex (pm s n - r) = ps s r n := by
  unfold ps
  rw [sum_mul_of_nonneg _ _ (ex_nonneg _) (ex_ne_top h)]
  exact Finset.sum_congr rfl fun t ht => ex_mul_ex (le_pm s ht) h

theorem pa_rescale (s v : ℕ → EReal) (n : ℕ) {r : EReal} (h : pm s n ≤ r) :
    pa s v (pm s n) n * ex (pm s n - r) = pa s v r n := by
  unfold pa
  rw [sum_mul_of_nonneg _ _ (ex_nonneg _) (ex_ne_top h)]
  refine Finset.sum_congr rfl fun t ht => ?_
  rw [mul_right_comm, ex_mul_ex (le_pm s ht) h]

/-- The maximum of a block of `k` scores starting at `n`. -/
theorem pm_add (s : ℕ → EReal) (n k : ℕ) :
    pm s (n + k) = max (pm s n) ((Finset.univ : Finset (Fin k)).sup fun i => s (n + i.val)) := by
  unfold pm
  apply le_antisymm
  · refine Finset.sup_le fun t ht => ?_
    rw [Finset.mem_range] at ht
    by_cases h : t < n
    · exact le_max_of_le_left (Finset.le_sup (Finset.mem_range.mpr h))
    · refine le_max_of_le_right ?_
      have : s t = (fun i : Fin k => s (n + i.val)) ⟨t - n, by omega⟩ := by show s t = s (n + (t - n)); congr 1; omega
      rw [this]
      exact Finset.le_sup (f := fun i : Fin k => s (n + i.val)) (Finset.mem_univ _)
  · refine max_le (Finset.sup_mono (Finset.range_mono (by omega))) (Finset.sup_le fun i _ => ?_)
    exact Finset.le_sup (Finset.mem_range.mpr (by omega))

theorem pm_le_add (s : ℕ → EReal) (n k : ℕ) : pm s n ≤ pm s (n + k) := Finset.sup_mono (Finset.range_mono (by omega))

/-- The sum's step over a block of `k`. -/
theorem ps_add (s : ℕ → EReal) (n k : ℕ) :
    ps s (pm s n) n * ex (pm s n - pm s (n + k)) + ∑ i : Fin k, ex (s (n + i.val) - pm s (n + k))
      = ps s (pm s (n + k)) (n + k) := by
  rw [ps_rescale s n (pm_le_add s n k)]
  unfold ps
  rw [Finset.sum_range_add, Finset.sum_range fun x => ex (s (n + x) - pm s (n + k))]

/-- The weighted sum's step over a block of `k`. -/
theorem pa_add (s v : ℕ → EReal) (n k : ℕ) :
    pa s v (pm s n) n * ex (pm s n - pm s (n + k)) + ∑ i : Fin k, ex (s (n + i.val) - pm s (n + k)) * v (n + i.val)
      = pa s v (pm s (n + k)) (n + k) := by
  rw [pa_rescale s v n (pm_le_add s n k)]
  unfold pa
  rw [Finset.sum_range_add, Finset.sum_range fun x => ex (s (n + x) - pm s (n + k)) * v (n + x)]

/-- The last step, which takes in one more score `s'` with value `v'` and divides. -/
theorem last_step (s v : ℕ → EReal) (n : ℕ) (s' v' : EReal) :
    Ideal.div (pa s v (pm s n) n * ex (pm s n - max (pm s n) s') + ex (s' - max (pm s n) s') * v')
        (ps s (pm s n) n * ex (pm s n - max (pm s n) s') + ex (s' - max (pm s n) s'))
      = Ideal.div (pa s v (max (pm s n) s') n + ex (s' - max (pm s n) s') * v')
        (ps s (max (pm s n) s') n + ex (s' - max (pm s n) s')) := by
  rw [pa_rescale s v n (le_max_left _ _), ps_rescale s n (le_max_left _ _)]

end Cert.Softmax

end
-- ==== Proof.Spec.lean ====
/- What both programs compute, written once: the quantiser, the scores and attention over a cache and one new token, as
   functions on the extended reals. -/
module

public import proofs.«01_k».proof.Proof.Softmax
public import Idealize.ShloMosaic.Lib.Pointwise

@[expose] public section

set_option maxRecDepth 16384

noncomputable section

namespace Cert.Spec

open Idealize.ShloMosaic
open Cert.Softmax

/-- The scores' scale, the bits of `1/√128` to the nearest single. -/
def smScale : EReal := Ideal.ofBits FTy.f32 0x3DB504F3#32

/-- The head a query row belongs to. -/
def hd (r : Fin 16) : Fin 2 := if r.val < 8 then 0 else 1

/-- Clipping to the codes' range. -/
def clip (x : EReal) : EReal := min (Ideal.ofBits FTy.f32 0x43E00000#32) (max (Ideal.ofBits FTy.f32 0xC3E00000#32) x)

/-- The number of powers of two, from the least normal single up and with infinity as the last, that `|s|` reaches. -/
def reached (s : EReal) : BitVec 32 :=
  Finset.fold IntOp.addi (0#32)
    (fun x : Fin 255 => BitVec.setWidth 32 (BitVec.ofBool (decide
      (Ideal.ofBits FTy.f32 (IntOp.shli ArithUnit.host (IntOp.addi (BitVec.ofNat 32 x.val) 1#32) 23#32)
        ≤ FloatOps.absf (F := Ideal) (φ := FTy.f32) s))))
    Finset.univ

/-- The power of two a scale `s` is inverted by: the exponent `e` is the number of powers reached less 126, or zero where
    none or all are, and the result is the single whose exponent field is `128 - e`. -/
def invS (s : EReal) : EReal :=
  Ideal.ofBits FTy.f32
    (IntOp.shli ArithUnit.host
      (IntOp.subi (128#32)
        (Scalar.select
          (IntOp.ori (IntOp.cmpi CmpIPredicate.eq (reached s) 0#32) (IntOp.cmpi CmpIPredicate.eq (reached s) 255#32))
          (0#32) (IntOp.subi (reached s) 126#32)))
      23#32)

/-- A new entry's code, -/
def code (x s : EReal) : EReal := clip (x * invS s)

/-- and the value the code stands for. -/
def wide (x s : EReal) : EReal := code x s * s

/-- A query row's score against a key. -/
def score (q k : Fin 128 → EReal) : EReal := (∑ d : Fin 128, q d * k d) * smScale

/-- Softmax over 16384 cached scores and one new score, applied to their values. -/
def att (s v : Fin 16384 → EReal) (s' v' : EReal) : EReal :=
  Ideal.div
    ((∑ t : Fin 16384, ex (s t - max (Finset.univ.sup s) s') * v t) + ex (s' - max (Finset.univ.sup s) s') * v')
    ((∑ t : Fin 16384, ex (s t - max (Finset.univ.sup s) s')) + ex (s' - max (Finset.univ.sup s) s'))

/-- One element of the result: query row `q`, new key `kn`, new value `vn`, cached keys `K` and values `V` (codes), the
    two scales, the column `d`. -/
def y (q kn vn : Fin 128 → EReal) (K V : Fin 16384 → Fin 128 → EReal) (sk sv : EReal) (d : Fin 128) : EReal :=
  att (fun t => score q fun e => K t e * sk) (fun t => V t d * sv) (score q fun e => wide (kn e) sk) (wide (vn d) sv)

/-- A function on the cache's positions read at any number. -/
def ext (s : Fin 16384 → EReal) (n : ℕ) : EReal := if h : n < 16384 then s ⟨n, h⟩ else 0

theorem ext_val (s : Fin 16384 → EReal) (t : Fin 16384) : ext s t.val = s t := by unfold ext; rw [dif_pos t.isLt]

theorem pm_ext (s : Fin 16384 → EReal) : pm (ext s) 16384 = Finset.univ.sup s := by
  have h := pm_add (ext s) 0 16384
  rw [Nat.zero_add] at h
  rw [h]
  simp only [Nat.zero_add, ext_val]
  unfold pm
  rw [Finset.range_zero, Finset.sup_empty, max_eq_right bot_le]

theorem ps_ext (s : Fin 16384 → EReal) (r : EReal) : ps (ext s) r 16384 = ∑ t : Fin 16384, ex (s t - r) := by
  unfold ps
  rw [Finset.sum_range]
  simp only [ext_val]

theorem pa_ext (s v : Fin 16384 → EReal) (r : EReal) : pa (ext s) (ext v) r 16384 = ∑ t : Fin 16384, ex (s t - r) * v t := by
  unfold pa
  rw [Finset.sum_range]
  simp only [ext_val]

/-- The running softmax's last division is attention. -/
theorem att_eq (s v : Fin 16384 → EReal) (s' v' : EReal) :
    Ideal.div (pa (ext s) (ext v) (pm (ext s) 16384) 16384 * ex (pm (ext s) 16384 - max (pm (ext s) 16384) s') + ex (s' - max (pm (ext s) 16384) s') * v')
        (ps (ext s) (pm (ext s) 16384) 16384 * ex (pm (ext s) 16384 - max (pm (ext s) 16384) s') + ex (s' - max (pm (ext s) 16384) s'))
      = att s v s' v' := by
  rw [last_step, pa_ext, ps_ext, pm_ext]
  rfl

end Cert.Spec

end
-- ==== Proof.KValue.lean ====
/- The kernel body's functions (KBody) read over the extended reals at an index. -/
module

public import proofs.«01_k».proof.Proof.KBody
public import proofs.«01_k».proof.Proof.Spec

@[expose] public section

set_option maxRecDepth 16384

noncomputable section

namespace Cert.KernelIdeal.Hand

open Idealize.ShloMosaic Cert.KernelIdeal Cert.KernelIdeal.Gen
open Cert.Softmax (ex)
open Cert.Spec (smScale hd clip)

theorem slt8 (r : Fin 16) : IntOp.cmpi CmpIPredicate.slt (BitVec.ofNat 32 r.val) 8#32 = if r.val < 8 then 1#1 else 0#1 := by
  revert r; decide

/-- Choosing by the test "row below eight". -/
theorem sel8 {α : Type} (r : Fin 16) (a b : α) :
    Scalar.select (IntOp.cmpi CmpIPredicate.slt (BitVec.ofNat 32 r.val) 8#32) a b = if r.val < 8 then a else b := by
  rw [slt8]; split <;> rfl

theorem negInf : Ideal.ofBits FTy.f32 0xFF800000#32 = ⊥ := by simp [Ideal.ofBits, Ideal.ieee]

/-- A fold of `max` from minus infinity is the supremum. -/
theorem fold_max {n : ℕ} (f : Fin n → EReal) : Finset.fold max (⊥ : EReal) f Finset.univ = Finset.univ.sup f := rfl

/-- The score of query row `r` against row `k` of a cache block. -/
def bsc (x0 : Vec Ideal S4x2 .f32) (x1 : Vec Ideal S1x16x128 .f32) (x4 : Vec Ideal S1x2x4096x128 .fp8e4m3) (r : Fin 16) (k : Fin 4096) : EReal :=
  (∑ d : Fin 128, x1 (ix3 0 r d) * (x4 (ix4 0 (hd r) k d) * x0 (ix2 0 (hd r)))) * smScale

theorem score_apply (x0 : Vec Ideal S4x2 .f32) (x1 : Vec Ideal S1x16x128 .f32) (x4 : Vec Ideal S1x2x4096x128 .fp8e4m3) (r : Fin 16) (k : Fin 4096) :
    k0_pay30 (F := Ideal) (w01 x0) (k0_pay27 x1) (k0_pay28 (w00 x0) (hd0 x4)) (hd1 x4) (ix2 r k) = bsc x0 x1 x4 r k := by
  unfold bsc smScale hd
  pointwise [k0_pay30, k0_pay27, k0_pay28, k0_pay26, w00, w01, hd0, hd1]
  simp only [sel8]
  by_cases h : r.val < 8
  · simp only [if_pos h, Finset.sum_const_zero, add_zero]
  · simp only [if_neg h, Finset.sum_const_zero, zero_add]

/-- The running maximum after a block. -/
theorem mNext_apply (x0 : Vec Ideal S4x2 .f32) (x1 : Vec Ideal S1x16x128 .f32) (x4 : Vec Ideal S1x2x4096x128 .fp8e4m3) (mx : Vec Ideal S16x1 .f32) (r : Fin 16) :
    mNext x0 x1 x4 mx (ix2 r 0) = max (mx (ix2 r 0)) (Finset.univ.sup fun k => bsc x0 x1 x4 r k) := by
  simp only [← score_apply]
  unfold mNext k0_pay3 k0_pay31
  generalize k0_pay30 (F := Ideal) _ _ _ _ = sc
  pointwise []
  rw [show (4286578688#32 : BitVec 32) = 0xFF800000#32 from rfl, negInf, fold_max]

theorem pay31_eq (x0 : Vec Ideal S4x2 .f32) (x1 : Vec Ideal S1x16x128 .f32) (x4 : Vec Ideal S1x2x4096x128 .fp8e4m3) (mx : Vec Ideal S16x1 .f32) :
    k0_pay31 (w01 x0) (k0_pay27 x1) (k0_pay28 (w00 x0) (hd0 x4)) (hd1 x4) mx = mNext x0 x1 x4 mx := by
  funext j
  idx_vars j
  unfold mNext
  generalize k0_pay31 (F := Ideal) _ _ _ _ _ = sc
  pointwise [k0_pay3]

/-- The running sum after a block. -/
theorem sNext_apply (x0 : Vec Ideal S4x2 .f32) (x1 : Vec Ideal S1x16x128 .f32) (x4 : Vec Ideal S1x2x4096x128 .fp8e4m3) (mx sm : Vec Ideal S16x1 .f32) (r : Fin 16) :
    sNext x0 x1 x4 mx sm (ix2 r 0)
      = sm (ix2 r 0) * ex (mx (ix2 r 0) - mNext x0 x1 x4 mx (ix2 r 0))
        + ∑ k : Fin 4096, ex (bsc x0 x1 x4 r k - mNext x0 x1 x4 mx (ix2 r 0)) := by
  simp only [← score_apply]
  unfold sNext k0_pay1 k0_pay34 k0_pay33 k0_pay32
  rw [pay31_eq]
  generalize k0_pay30 (F := Ideal) _ _ _ _ = sc
  generalize mNext x0 x1 x4 mx = mn
  pointwise [Cert.Softmax.ex]

/-- The column of the weighted sum that belongs to head `h`. -/
def col (h : Fin 2) (d : Fin 128) : Fin 256 := ⟨128 * h.val + d.val, by omega⟩

/-- The running weighted sum after a block. -/
theorem aNext_apply (x0 : Vec Ideal S4x2 .f32) (x1 : Vec Ideal S1x16x128 .f32) (x4 x5 : Vec Ideal S1x2x4096x128 .fp8e4m3) (mx : Vec Ideal S16x1 .f32)
    (ac : Vec Ideal S16x256 .f32) (r : Fin 16) (h : Fin 2) (d : Fin 128) :
    aNext x0 x1 x4 x5 mx ac (ix2 r (col h d))
      = ac (ix2 r (col h d)) * ex (mx (ix2 r 0) - mNext x0 x1 x4 mx (ix2 r 0))
        + ∑ k : Fin 4096, ex (bsc x0 x1 x4 r k - mNext x0 x1 x4 mx (ix2 r 0)) * (x5 (ix4 0 h k d) * x0 (ix2 1 h)) := by
  simp only [← score_apply]
  unfold aNext k0_pay2 k0_pay33 k0_pay32
  rw [pay31_eq]
  generalize k0_pay30 (F := Ideal) _ _ _ _ = sc
  generalize mNext x0 x1 x4 mx = mn
  pointwise [Cert.Softmax.ex, k0_pay29, w10, w11, hd0, hd1]
  congr 1
  refine Finset.sum_congr rfl fun k _ => ?_
  congr 1
  have hh : h = 0 ∨ h = 1 := by omega
  rcases hh with rfl | rfl
  · have : (col 0 d).val < 128 := by unfold col; dsimp only; omega
    simp only [this, dif_pos, if_pos]
    congr 2
    simp only [col, Fin.val_zero, Nat.mul_zero, Nat.zero_add]
  · have : ¬(col 1 d).val < 128 := by unfold col; dsimp only; omega
    rw [dif_neg this]
    simp only [col, Fin.val_one, Nat.mul_one, Nat.add_sub_cancel_left]

theorem row0_apply (i : grid0.Coords) (h : k0_cond3 i = 1#1) (x : Vec Ideal S2x32x128 .f32) (b : Fin 32) (hb : (i 0).val = b.val) (d : Fin 128) :
    row0 i h x (ix3 0 0 d) = x (ix3 0 b d) := by
  unfold row0 View.ld
  refine congrArg x (funext fun a => Fin.ext ?_)
  have h1 : (Scalar.indexCast (BitVec.ofNat 32 (i 0).val) : Index).toNat = b.val := by
    rw [hb]; exact (by decide : ∀ b : Fin 32, (Scalar.indexCast (BitVec.ofNat 32 b.val) : Index).toNat = b.val) b
  fin_cases a
  · rfl
  · show (k0_off1 i) 1 + 1 * 0 = b.val
    rw [← h1]; rfl
  · show 0 + 1 * d.val = d.val
    omega

theorem row1_apply (i : grid0.Coords) (h : k0_cond3 i = 1#1) (x : Vec Ideal S2x32x128 .f32) (b : Fin 32) (hb : (i 0).val = b.val) (d : Fin 128) :
    row1 i h x (ix3 0 0 d) = x (ix3 1 b d) := by
  unfold row1 View.ld
  refine congrArg x (funext fun a => Fin.ext ?_)
  have h1 : (Scalar.indexCast (BitVec.ofNat 32 (i 0).val) : Index).toNat = b.val := by
    rw [hb]; exact (by decide : ∀ b : Fin 32, (Scalar.indexCast (BitVec.ofNat 32 b.val) : Index).toNat = b.val) b
  fin_cases a
  · rfl
  · show (k0_off2 i) 1 + 1 * 0 = b.val
    rw [← h1]; rfl
  · show 0 + 1 * d.val = d.val
    omega

/-- The new token's score of query row `r` of batch entry `b`. -/
def nsc (x1 : Vec Ideal S1x16x128 .f32) (kw : Vec Ideal S2x32x128 .f32) (b : Fin 32) (r : Fin 16) : EReal :=
  (∑ d : Fin 128, x1 (ix3 0 r d) * kw (ix3 (hd r) b d)) * smScale

theorem pay15_apply (i : grid0.Coords) (h : k0_cond3 i = 1#1) (x1 : Vec Ideal S1x16x128 .f32) (kw : Vec Ideal S2x32x128 .f32) (b : Fin 32) (hb : (i 0).val = b.val) (r : Fin 16) :
    k0_pay15 (F := Ideal) (k0_pay26 x1) (row0 i h kw) (row1 i h kw) (ix2 r 0) = nsc x1 kw b r := by
  have e0 := row0_apply i h kw b hb
  have e1 := row1_apply i h kw b hb
  generalize row0 i h kw = k0 at e0 ⊢
  generalize row1 i h kw = k1 at e1 ⊢
  unfold nsc smScale hd
  pointwise [k0_pay15, k0_pay26]
  simp only [sel8, e0, e1]
  by_cases h : r.val < 8
  · simp only [if_pos h]
  · simp only [if_neg h]

/-- The result block at a last point. -/
theorem yOut_apply (i : grid0.Coords) (h : k0_cond3 i = 1#1) (x1 : Vec Ideal S1x16x128 .f32) (kw vw : Vec Ideal S2x32x128 .f32)
    (mx sm : Vec Ideal S16x1 .f32) (ac : Vec Ideal S16x256 .f32) (b : Fin 32) (hb : (i 0).val = b.val) (r : Fin 16) (d : Fin 128) :
    yOut i h x1 kw vw mx sm ac (ix3 0 r d)
      = Ideal.div
        (ac (ix2 r (col (hd r) d)) * ex (mx (ix2 r 0) - max (mx (ix2 r 0)) (nsc x1 kw b r))
          + ex (nsc x1 kw b r - max (mx (ix2 r 0)) (nsc x1 kw b r)) * vw (ix3 (hd r) b d))
        (sm (ix2 r 0) * ex (mx (ix2 r 0) - max (mx (ix2 r 0)) (nsc x1 kw b r))
          + ex (nsc x1 kw b r - max (mx (ix2 r 0)) (nsc x1 kw b r))) := by
  have e := pay15_apply i h x1 kw b hb r
  have e0 := row0_apply i h vw b hb
  have e1 := row1_apply i h vw b hb
  unfold yOut k0_pay17 k0_pay18 k0_pay19 k0_pay17 k0_pay18 k0_pay16
  generalize k0_pay15 (F := Ideal) _ _ _ = sc at e ⊢
  generalize row0 i h vw = k0 at e0 ⊢
  generalize row1 i h vw = k1 at e1 ⊢
  pointwise [k0_pay4, k0_pay14, Cert.Softmax.ex]
  simp only [sel8, e0, e1, e]
  unfold hd col
  by_cases h : r.val < 8
  · simp only [if_pos h, Fin.val_zero, Nat.mul_zero, Nat.zero_add]
  · simp only [if_neg h, Fin.val_one, Nat.mul_one]

/-! ## The codes -/

/-- The first head's rows of a buffer filled by two stores, one per head. -/
theorem canon_head0 {e : EltTy} (w1 w0 : Vec Ideal S1x32x128 e) (b : Fin 32) (d : Fin 128) :
    View.canon (Val := Elt Ideal) [⟨Rect.unit (s := S2x32x128) ![1, 0, 0] ![1, 32, 128] inb_S2x32x128_S1x32x128_1_0_0, w1⟩,
      ⟨Rect.unit (s := S2x32x128) ![0, 0, 0] ![1, 32, 128] inb_S2x32x128_S1x32x128_0_0_0, w0⟩] (ix3 0 b d) = w0 (ix3 0 b d) := by
  rw [View.canon_cons_of_not_mem]
  · have : (ix3 0 b d : S2x32x128.Idx) = (Rect.unit (s := S2x32x128) ![0, 0, 0] ![1, 32, 128] inb_S2x32x128_S1x32x128_0_0_0).emb (ix3 0 b d) := by
      funext a; apply Fin.ext; fin_cases a
      · rfl
      · show b.val = 0 + 1 * b.val; omega
      · show d.val = 0 + 1 * d.val; omega
    rw [this]
    exact View.canon_cons_emb (Val := Elt Ideal) (Rect.unit (s := S2x32x128) ![0, 0, 0] ![1, 32, 128] inb_S2x32x128_S1x32x128_0_0_0) w0 [] (ix3 0 b d)
  · intro hm
    have := ((Rect.mem_set_unit (inb := inb_S2x32x128_S1x32x128_1_0_0)).mp hm 0).1
    exact absurd this (by show ¬(1 ≤ 0); decide)

/-- The second head's. -/
theorem canon_head1 {e : EltTy} (w1 w0 : Vec Ideal S1x32x128 e) (b : Fin 32) (d : Fin 128) :
    View.canon (Val := Elt Ideal) [⟨Rect.unit (s := S2x32x128) ![1, 0, 0] ![1, 32, 128] inb_S2x32x128_S1x32x128_1_0_0, w1⟩,
      ⟨Rect.unit (s := S2x32x128) ![0, 0, 0] ![1, 32, 128] inb_S2x32x128_S1x32x128_0_0_0, w0⟩] (ix3 1 b d) = w1 (ix3 0 b d) := by
  have : (ix3 1 b d : S2x32x128.Idx) = (Rect.unit (s := S2x32x128) ![1, 0, 0] ![1, 32, 128] inb_S2x32x128_S1x32x128_1_0_0).emb (ix3 0 b d) := by
    funext a; apply Fin.ext; fin_cases a
    · rfl
    · show b.val = 0 + 1 * b.val; omega
    · show d.val = 0 + 1 * d.val; omega
  rw [this]
  exact View.canon_cons_emb (Val := Elt Ideal) (Rect.unit (s := S2x32x128) ![1, 0, 0] ![1, 32, 128] inb_S2x32x128_S1x32x128_1_0_0) w1 _ (ix3 0 b d)

theorem kCodes_apply (x0 : Vec Ideal S4x2 .f32) (x2 : Vec Ideal S2x32x128 .f32) (h : Fin 2) (b : Fin 32) (d : Fin 128) :
    kCodes x0 x2 (ix3 h b d) = clip (x2 (ix3 h b d) * x0 (ix2 2 h)) := by
  unfold kCodes clip
  have hh : h = 0 ∨ h = 1 := by omega
  rcases hh with rfl | rfl
  · rw [canon_head0]; pointwise [k0_pay7, k0_pay5, w20, nh0]
  · rw [canon_head1]; pointwise [k0_pay13, k0_pay11, w21, nh1]

theorem vCodes_apply (x0 : Vec Ideal S4x2 .f32) (x3 : Vec Ideal S2x32x128 .f32) (h : Fin 2) (b : Fin 32) (d : Fin 128) :
    vCodes x0 x3 (ix3 h b d) = clip (x3 (ix3 h b d) * x0 (ix2 3 h)) := by
  unfold vCodes clip
  have hh : h = 0 ∨ h = 1 := by omega
  rcases hh with rfl | rfl
  · rw [canon_head0]; pointwise [k0_pay8, k0_pay6, w30, nh0]
  · rw [canon_head1]; pointwise [k0_pay20, k0_pay12, w31, nh1]

theorem kWide_apply (x0 : Vec Ideal S4x2 .f32) (x2 : Vec Ideal S2x32x128 .f32) (h : Fin 2) (b : Fin 32) (d : Fin 128) :
    kWide x0 x2 (ix3 h b d) = clip (x2 (ix3 h b d) * x0 (ix2 2 h)) * x0 (ix2 0 h) := by
  unfold kWide clip
  have hh : h = 0 ∨ h = 1 := by omega
  rcases hh with rfl | rfl
  · rw [canon_head0]; pointwise [k0_pay9, k0_pay5, w20, w00, nh0]
  · rw [canon_head1]; pointwise [k0_pay21, k0_pay11, w21, w01, nh1]

theorem vWide_apply (x0 : Vec Ideal S4x2 .f32) (x3 : Vec Ideal S2x32x128 .f32) (h : Fin 2) (b : Fin 32) (d : Fin 128) :
    vWide x0 x3 (ix3 h b d) = clip (x3 (ix3 h b d) * x0 (ix2 3 h)) * x0 (ix2 1 h) := by
  unfold vWide clip
  have hh : h = 0 ∨ h = 1 := by omega
  rcases hh with rfl | rfl
  · rw [canon_head0]; pointwise [k0_pay10, k0_pay6, w30, w10, nh0]
  · rw [canon_head1]; pointwise [k0_pay22, k0_pay12, w31, w11, nh1]

end Cert.KernelIdeal.Hand

end
-- ==== Proof.KHost.lean ====
/- What the host lines before the kernel leave in its operands, read at an index, and the blocks of those operands. -/
module

public import proofs.«01_k».proof.Proof.KShared
public import proofs.«01_k».proof.Proof.Spec
public import Idealize.ShloMosaic.Lib.StableHlo.ReadAt
public import Idealize.ShloMosaic.Lib.Pipeline.Value

@[expose] public section

set_option maxRecDepth 16384

noncomputable section

namespace Cert.KernelIdeal.Hand

open Idealize.ShloMosaic Idealize.ShloMosaic.TcCoe Cert.KernelIdeal Cert.KernelIdeal.Gen
open Idealize.ShloMosaic.Pipeline (Window)

variable (m : (ℓ : Loc nD τ sig) → Buf (Elt Ideal) ℓ)

/-! ## The arguments, as functions -/

/-- The queries, row by row: batch entry, query row, column. -/
def qA (c : Dev nD) (b : Fin 32) (r : Fin 16) (d : Fin 128) : EReal :=
  (m ((c : Thread nD τ).loc main_arg0) : Vec Ideal S32x1x2048 .f32) (ix3 b 0 ⟨r.val * 128 + d.val, by omega⟩)
/-- The new keys. -/
def knA (c : Dev nD) (b : Fin 32) (h : Fin 2) (d : Fin 128) : EReal :=
  (m ((c : Thread nD τ).loc main_arg1) : Vec Ideal S32x1x2x128 .f32) (ix4 b 0 h d)
/-- The new values. -/
def vnA (c : Dev nD) (b : Fin 32) (h : Fin 2) (d : Fin 128) : EReal :=
  (m ((c : Thread nD τ).loc main_arg2) : Vec Ideal S32x1x2x128 .f32) (ix4 b 0 h d)
/-- The cached keys' codes. -/
def kA (c : Dev nD) (b : Fin 32) (h : Fin 2) (t : Fin 16384) (d : Fin 128) : EReal :=
  (m ((c : Thread nD τ).loc main_arg3) : Vec Ideal S32x16384x2x128 .fp8e4m3) (ix4 b t h d)
/-- The cached values' codes. -/
def vA (c : Dev nD) (b : Fin 32) (h : Fin 2) (t : Fin 16384) (d : Fin 128) : EReal :=
  (m ((c : Thread nD τ).loc main_arg5) : Vec Ideal S32x16384x2x128 .fp8e4m3) (ix4 b t h d)
/-- The keys' scales. -/
def skA (c : Dev nD) (h : Fin 2) : EReal := (m ((c : Thread nD τ).loc main_arg4) : Vec Ideal S2 .f32) (ix1 h)
/-- The values' scales. -/
def svA (c : Dev nD) (h : Fin 2) : EReal := (m ((c : Thread nD τ).loc main_arg6) : Vec Ideal S2 .f32) (ix1 h)

/-! ## The operands -/

set_option maxHeartbeats 1000000

theorem q_at (c : Dev nD) (b : Fin 32) (r : Fin 16) (d : Fin 128) :
    (V m c main_v59 : Vec Ideal S32x16x128 .f32) (ix3 b r d) = qA m c b r d := by
  unfold V qA
  after_reads_at
theorem kn_at (c : Dev nD) (b : Fin 32) (h : Fin 2) (d : Fin 128) :
    (V m c main_v61 : Vec Ideal S2x32x128 .f32) (ix3 h b d) = knA m c b h d := by
  unfold V knA
  after_reads_at
theorem vn_at (c : Dev nD) (b : Fin 32) (h : Fin 2) (d : Fin 128) :
    (V m c main_v63 : Vec Ideal S2x32x128 .f32) (ix3 h b d) = vnA m c b h d := by
  unfold V vnA
  after_reads_at
theorem k_at (c : Dev nD) (b : Fin 32) (h : Fin 2) (t : Fin 16384) (d : Fin 128) :
    (V m c main_v64 : Vec Ideal S32x2x16384x128 .fp8e4m3) (ix4 b h t d) = kA m c b h t d := by
  unfold V kA
  after_reads_at
theorem v_at (c : Dev nD) (b : Fin 32) (h : Fin 2) (t : Fin 16384) (d : Fin 128) :
    (V m c main_v65 : Vec Ideal S32x2x16384x128 .fp8e4m3) (ix4 b h t d) = vA m c b h t d := by
  unfold V vA
  after_reads_at

theorem tab0_at (c : Dev nD) (h : Fin 2) : (V m c main_v58 : Vec Ideal S4x2 .f32) (ix2 0 h) = skA m c h := by
  unfold V skA
  after_reads_simp
  simp only [Matrix.cons_val]
  after_reads_simp
  simp -implicitDefEqProofs only [StableHlo.TRef.toBuf, StableHlo.TRef.ofBuf, cast_cast, cast_eq]
  clean_types
  pointwise
theorem tab1_at (c : Dev nD) (h : Fin 2) : (V m c main_v58 : Vec Ideal S4x2 .f32) (ix2 1 h) = svA m c h := by
  unfold V svA
  after_reads_simp
  simp only [Matrix.cons_val]
  after_reads_simp
  simp -implicitDefEqProofs only [StableHlo.TRef.toBuf, StableHlo.TRef.ofBuf, cast_cast, cast_eq]
  clean_types
  pointwise
theorem tab2_at (c : Dev nD) (h : Fin 2) : (V m c main_v58 : Vec Ideal S4x2 .f32) (ix2 2 h) = Cert.Spec.invS (skA m c h) := by
  unfold V skA Cert.Spec.invS Cert.Spec.reached
  after_reads_simp
  simp only [Matrix.cons_val]
  after_reads_simp
  simp -implicitDefEqProofs only [StableHlo.TRef.toBuf, StableHlo.TRef.ofBuf, cast_cast, cast_eq]
  clean_types
  pointwise
  rw [show id (constantI S_ 32 0#32) ix0 = 0#32 from rfl]
  rfl
theorem tab3_at (c : Dev nD) (h : Fin 2) : (V m c main_v58 : Vec Ideal S4x2 .f32) (ix2 3 h) = Cert.Spec.invS (svA m c h) := by
  unfold V svA Cert.Spec.invS Cert.Spec.reached
  after_reads_simp
  simp only [Matrix.cons_val]
  after_reads_simp
  simp -implicitDefEqProofs only [StableHlo.TRef.toBuf, StableHlo.TRef.ofBuf, cast_cast, cast_eq]
  clean_types
  pointwise
  rw [show id (constantI S_ 32 0#32) ix0 = 0#32 from rfl]
  rfl

/-! ## The blocks -/

theorem idx1 : ∀ t : Fin cfg0.N, win0_1.index t 0 = t.val / 4 ∧ win0_1.index t 1 = 0 ∧ win0_1.index t 2 = 0 := by decide +kernel
theorem idx4 : ∀ t : Fin cfg0.N, win0_4.index t 0 = t.val / 4 ∧ win0_4.index t 1 = 0 ∧ win0_4.index t 2 = t.val % 4 ∧ win0_4.index t 3 = 0 := by decide +kernel
theorem idx5 : ∀ t : Fin cfg0.N, win0_5.index t 0 = t.val / 4 ∧ win0_5.index t 1 = 0 ∧ win0_5.index t 2 = t.val % 4 ∧ win0_5.index t 3 = 0 := by decide +kernel
theorem idx0 : ∀ t : Fin cfg0.N, win0_0.index t 0 = 0 ∧ win0_0.index t 1 = 0 := by decide +kernel
theorem idx2 : ∀ t : Fin cfg0.N, win0_2.index t 0 = 0 ∧ win0_2.index t 1 = 0 ∧ win0_2.index t 2 = 0 := by decide +kernel
theorem idx3 : ∀ t : Fin cfg0.N, win0_3.index t 0 = 0 ∧ win0_3.index t 1 = 0 ∧ win0_3.index t 2 = 0 := by decide +kernel

theorem lt128 (t : Fin cfg0.N) : t.val < 128 := lt_of_lt_of_eq t.isLt (show cfg0.N = 128 from N_0)

/-- The batch entry of a grid point, -/
def bt (t : Fin cfg0.N) : Fin 32 := ⟨t.val / 4, by have := lt128 t; omega⟩
/-- and a row of its cache block, as a row of the cache. -/
def row (t : Fin cfg0.N) (k : Fin 4096) : Fin 16384 := ⟨4096 * (t.val % 4) + k.val, by omega⟩

theorem blk1_at (c : Dev nD) (t : Fin cfg0.N) (r : Fin 16) (d : Fin 128) :
    (iblk m c 1 t : Vec Ideal S1x16x128 .f32) (ix3 0 r d) = qA m c (bt t) r d := by
  rw [← q_at]
  have ⟨e0, e1, e2⟩ := idx1 t
  refine congrArg (V m c main_v59 : Vec Ideal S32x16x128 .f32) (funext fun a => Fin.ext ?_)
  refine (win0_1.rect_emb_val t (ix3 0 r d) a).trans ?_
  fin_cases a
  · show win0_1.index t 0 * 1 + 0 = t.val / 4; omega
  · show win0_1.index t 1 * 16 + r.val = r.val; omega
  · show win0_1.index t 2 * 128 + d.val = d.val; omega

theorem blk4_at (c : Dev nD) (t : Fin cfg0.N) (h : Fin 2) (k : Fin 4096) (d : Fin 128) :
    (iblk m c 4 t : Vec Ideal S1x2x4096x128 .fp8e4m3) (ix4 0 h k d) = kA m c (bt t) h (row t k) d := by
  rw [← k_at]
  have ⟨e0, e1, e2, e3⟩ := idx4 t
  refine congrArg (V m c main_v64 : Vec Ideal S32x2x16384x128 .fp8e4m3) (funext fun a => Fin.ext ?_)
  refine (win0_4.rect_emb_val t (ix4 0 h k d) a).trans ?_
  fin_cases a
  · show win0_4.index t 0 * 1 + 0 = t.val / 4; omega
  · show win0_4.index t 1 * 2 + h.val = h.val; omega
  · show win0_4.index t 2 * 4096 + k.val = 4096 * (t.val % 4) + k.val; omega
  · show win0_4.index t 3 * 128 + d.val = d.val; omega

theorem blk5_at (c : Dev nD) (t : Fin cfg0.N) (h : Fin 2) (k : Fin 4096) (d : Fin 128) :
    (iblk m c 5 t : Vec Ideal S1x2x4096x128 .fp8e4m3) (ix4 0 h k d) = vA m c (bt t) h (row t k) d := by
  rw [← v_at]
  have ⟨e0, e1, e2, e3⟩ := idx5 t
  refine congrArg (V m c main_v65 : Vec Ideal S32x2x16384x128 .fp8e4m3) (funext fun a => Fin.ext ?_)
  refine (win0_5.rect_emb_val t (ix4 0 h k d) a).trans ?_
  fin_cases a
  · show win0_5.index t 0 * 1 + 0 = t.val / 4; omega
  · show win0_5.index t 1 * 2 + h.val = h.val; omega
  · show win0_5.index t 2 * 4096 + k.val = 4096 * (t.val % 4) + k.val; omega
  · show win0_5.index t 3 * 128 + d.val = d.val; omega

theorem blk0_at (c : Dev nD) (t : Fin cfg0.N) (i : Fin 4) (h : Fin 2) :
    (iblk m c 0 t : Vec Ideal S4x2 .f32) (ix2 i h) = (V m c main_v58 : Vec Ideal S4x2 .f32) (ix2 i h) := by
  have ⟨e0, e1⟩ := idx0 t
  refine congrArg (V m c main_v58 : Vec Ideal S4x2 .f32) (funext fun a => Fin.ext ?_)
  refine (win0_0.rect_emb_val t (ix2 i h) a).trans ?_
  fin_cases a
  · show win0_0.index t 0 * 4 + i.val = i.val; omega
  · show win0_0.index t 1 * 2 + h.val = h.val; omega

theorem blk0_0 (c : Dev nD) (t : Fin cfg0.N) (h : Fin 2) : (iblk m c 0 t : Vec Ideal S4x2 .f32) (ix2 0 h) = skA m c h :=
  (blk0_at m c t 0 h).trans (tab0_at m c h)
theorem blk0_1 (c : Dev nD) (t : Fin cfg0.N) (h : Fin 2) : (iblk m c 0 t : Vec Ideal S4x2 .f32) (ix2 1 h) = svA m c h :=
  (blk0_at m c t 1 h).trans (tab1_at m c h)
theorem blk0_2 (c : Dev nD) (t : Fin cfg0.N) (h : Fin 2) : (iblk m c 0 t : Vec Ideal S4x2 .f32) (ix2 2 h) = Cert.Spec.invS (skA m c h) :=
  (blk0_at m c t 2 h).trans (tab2_at m c h)
theorem blk0_3 (c : Dev nD) (t : Fin cfg0.N) (h : Fin 2) : (iblk m c 0 t : Vec Ideal S4x2 .f32) (ix2 3 h) = Cert.Spec.invS (svA m c h) :=
  (blk0_at m c t 3 h).trans (tab3_at m c h)

theorem blk2_at (c : Dev nD) (t : Fin cfg0.N) (h : Fin 2) (b : Fin 32) (d : Fin 128) :
    (iblk m c 2 t : Vec Ideal S2x32x128 .f32) (ix3 h b d) = knA m c b h d := by
  rw [← kn_at]
  have ⟨e0, e1, e2⟩ := idx2 t
  refine congrArg (V m c main_v61 : Vec Ideal S2x32x128 .f32) (funext fun a => Fin.ext ?_)
  refine (win0_2.rect_emb_val t (ix3 h b d) a).trans ?_
  fin_cases a
  · show win0_2.index t 0 * 2 + h.val = h.val; omega
  · show win0_2.index t 1 * 32 + b.val = b.val; omega
  · show win0_2.index t 2 * 128 + d.val = d.val; omega

theorem blk3_at (c : Dev nD) (t : Fin cfg0.N) (h : Fin 2) (b : Fin 32) (d : Fin 128) :
    (iblk m c 3 t : Vec Ideal S2x32x128 .f32) (ix3 h b d) = vnA m c b h d := by
  rw [← vn_at]
  have ⟨e0, e1, e2⟩ := idx3 t
  refine congrArg (V m c main_v63 : Vec Ideal S2x32x128 .f32) (funext fun a => Fin.ext ?_)
  refine (win0_3.rect_emb_val t (ix3 h b d) a).trans ?_
  fin_cases a
  · show win0_3.index t 0 * 2 + h.val = h.val; omega
  · show win0_3.index t 1 * 32 + b.val = b.val; omega
  · show win0_3.index t 2 * 128 + d.val = d.val; omega

end Cert.KernelIdeal.Hand

end
-- ==== Proof.KResult.lean ====
/- What the kernel's three result arrays hold over the extended reals: attention, and the codes of the new keys and values. -/
module

public import proofs.«01_k».proof.Proof.KFrame
public import proofs.«01_k».proof.Proof.KValue
public import proofs.«01_k».proof.Proof.KHost

@[expose] public section

set_option maxRecDepth 16384

noncomputable section

namespace Cert.KernelIdeal.Hand

open Idealize.ShloMosaic Idealize.ShloMosaic.TcCoe Cert.KernelIdeal Cert.KernelIdeal.Gen
open Idealize.ShloMosaic.Pipeline (Dat Cfg Window)
open Idealize.SL.Sem
open Cert.Softmax Cert.Spec

variable (m : (ℓ : Loc nD τ sig) → Buf (Elt Ideal) ℓ) (ρ : Dev nD → PrngReg)

/-! ## The running state -/

/-- The scores of query row `r` of batch entry `b` against the cache. -/
def sA (c : Dev nD) (b : Fin 32) (r : Fin 16) (t : Fin 16384) : EReal :=
  score (qA m c b r) fun e => kA m c b (hd r) t e * skA m c (hd r)

/-- The cached values' column `d`, widened. -/
def wA (c : Dev nD) (b : Fin 32) (h : Fin 2) (d : Fin 128) (t : Fin 16384) : EReal := vA m c b h t d * svA m c h

theorem bsc_at (c : Dev nD) (t : Fin cfg0.N) (r : Fin 16) (k : Fin 4096) :
    bsc (iblk m c 0 t) (iblk m c 1 t) (iblk m c 4 t) r k = ext (sA m c (bt t) r) (4096 * (t.val % 4) + k.val) := by
  rw [show 4096 * (t.val % 4) + k.val = (row t k).val from rfl, ext_val]
  unfold bsc sA score
  simp only [blk1_at, blk4_at, blk0_0]

theorem step_m (c : Dev nD) (t : Fin cfg0.N) (s : St Ideal) (r : Fin 16)
    (h1 : s.1 (ix2 r 0) = pm (ext (sA m c (bt t) r)) (4096 * (t.val % 4))) :
    (step m c t s).1 (ix2 r 0) = pm (ext (sA m c (bt t) r)) (4096 * (t.val % 4) + 4096) := by
  show mNext (iblk m c 0 t) (iblk m c 1 t) (iblk m c 4 t) s.1 (ix2 r 0) = _
  rw [mNext_apply, h1, pm_add]
  simp only [bsc_at]

theorem step_s (c : Dev nD) (t : Fin cfg0.N) (s : St Ideal) (r : Fin 16)
    (h1 : s.1 (ix2 r 0) = pm (ext (sA m c (bt t) r)) (4096 * (t.val % 4)))
    (h2 : s.2.1 (ix2 r 0) = ps (ext (sA m c (bt t) r)) (pm (ext (sA m c (bt t) r)) (4096 * (t.val % 4))) (4096 * (t.val % 4))) :
    (step m c t s).2.1 (ix2 r 0)
      = ps (ext (sA m c (bt t) r)) (pm (ext (sA m c (bt t) r)) (4096 * (t.val % 4) + 4096)) (4096 * (t.val % 4) + 4096) := by
  have e := step_m m c t s r h1
  unfold step at e ⊢
  dsimp only at e ⊢
  rw [sNext_apply, e, h1, h2]
  simp only [bsc_at]
  exact ps_add _ _ _

theorem step_a (c : Dev nD) (t : Fin cfg0.N) (s : St Ideal) (r : Fin 16) (h : Fin 2) (d : Fin 128)
    (h1 : s.1 (ix2 r 0) = pm (ext (sA m c (bt t) r)) (4096 * (t.val % 4)))
    (h2 : s.2.2 (ix2 r (col h d)) = pa (ext (sA m c (bt t) r)) (ext (wA m c (bt t) h d)) (pm (ext (sA m c (bt t) r)) (4096 * (t.val % 4))) (4096 * (t.val % 4))) :
    (step m c t s).2.2 (ix2 r (col h d))
      = pa (ext (sA m c (bt t) r)) (ext (wA m c (bt t) h d)) (pm (ext (sA m c (bt t) r)) (4096 * (t.val % 4) + 4096)) (4096 * (t.val % 4) + 4096) := by
  have e := step_m m c t s r h1
  unfold step at e ⊢
  dsimp only at e ⊢
  rw [aNext_apply, e, h1, h2]
  have hv : ∀ k : Fin 4096, vA m c (bt t) h (row t k) d * svA m c h = ext (wA m c (bt t) h d) (4096 * (t.val % 4) + k.val) := fun k => by
    rw [show 4096 * (t.val % 4) + k.val = (row t k).val from rfl, ext_val]; rfl
  simp only [bsc_at, blk5_at, blk0_1, hv]
  exact pa_add _ _ _ _

theorem start_m (r : Fin 16) : (start : St Ideal).1 (ix2 r 0) = ⊥ := by
  unfold start
  dsimp only
  pointwise [k0_pay23]
  exact negInf
theorem start_s (r : Fin 16) : (start : St Ideal).2.1 (ix2 r 0) = 0 := by
  unfold start
  dsimp only
  pointwise [k0_pay24]
theorem start_a (r : Fin 16) (j : Fin 256) : (start : St Ideal).2.2 (ix2 r j) = 0 := by
  unfold start
  dsimp only
  pointwise [k0_pay25]

/-- The state after point `t` is that of the first `4096 (j + 1)` cache rows, `j = t mod 4`. -/
theorem state_at (c : Dev nD) : ∀ n (hn : n < cfg0.N),
    (∀ r : Fin 16, (stAt m c n hn).1 (ix2 r 0) = pm (ext (sA m c (bt ⟨n, hn⟩) r)) (4096 * (n % 4) + 4096))
    ∧ (∀ r : Fin 16, (stAt m c n hn).2.1 (ix2 r 0)
        = ps (ext (sA m c (bt ⟨n, hn⟩) r)) (pm (ext (sA m c (bt ⟨n, hn⟩) r)) (4096 * (n % 4) + 4096)) (4096 * (n % 4) + 4096))
    ∧ (∀ (r : Fin 16) (h : Fin 2) (d : Fin 128), (stAt m c n hn).2.2 (ix2 r (col h d))
        = pa (ext (sA m c (bt ⟨n, hn⟩) r)) (ext (wA m c (bt ⟨n, hn⟩) h d)) (pm (ext (sA m c (bt ⟨n, hn⟩) r)) (4096 * (n % 4) + 4096)) (4096 * (n % 4) + 4096)) := by
  intro n
  induction n with
  | zero =>
    intro hn
    have e := stAt_first m c ⟨0, hn⟩ rfl
    have h1 : ∀ r : Fin 16, (start : St Ideal).1 (ix2 r 0) = pm (ext (sA m c (bt ⟨0, hn⟩) r)) (4096 * (0 % 4)) := fun r => start_m r
    dsimp only at e
    rw [e]
    exact ⟨fun r => step_m m c _ _ r (h1 r), fun r => step_s m c _ _ r (h1 r) (start_s r), fun r h d => step_a m c _ _ r h d (h1 r) (start_a r _)⟩
  | succ n ih =>
    intro hn
    by_cases hz : (n + 1) % 4 = 0
    · have e := stAt_first m c ⟨n + 1, hn⟩ hz
      have h1 : ∀ r : Fin 16, (start : St Ideal).1 (ix2 r 0) = pm (ext (sA m c (bt ⟨n + 1, hn⟩) r)) (4096 * ((n + 1) % 4)) := fun r => by
        rw [hz]; exact start_m r
      dsimp only at e
      rw [e]
      exact ⟨fun r => step_m m c _ _ r (h1 r), fun r => step_s m c _ _ r (h1 r) (by dsimp only; rw [hz]; exact start_s r),
        fun r h d => step_a m c _ _ r h d (h1 r) (by dsimp only; rw [hz]; exact start_a r _)⟩
    · have e := stAt_next m c ⟨n + 1, hn⟩ hz
      obtain ⟨i1, i2, i3⟩ := ih (Nat.lt_of_succ_lt hn)
      have hb : bt ⟨n + 1, hn⟩ = bt ⟨n, Nat.lt_of_succ_lt hn⟩ := Fin.ext (by show (n + 1) / 4 = n / 4; omega)
      have hm : 4096 * ((n + 1) % 4) = 4096 * (n % 4) + 4096 := by omega
      dsimp only at e
      rw [e]
      refine ⟨fun r => step_m m c _ _ r ?_, fun r => step_s m c _ _ r ?_ ?_, fun r h d => step_a m c _ _ r h d ?_ ?_⟩ <;> dsimp only <;> rw [hb, hm]
      · exact i1 r
      · exact i1 r
      · exact i2 r
      · exact i1 r
      · exact i3 r h d

/-! ## The result blocks -/

theorem kw_at (c : Dev nD) (h : Fin 2) (b : Fin 32) (d : Fin 128) : kwAt m c (ix3 h b d) = wide (knA m c b h d) (skA m c h) := by
  unfold kwAt
  rw [kWide_apply]
  unfold wide code
  rw [blk2_at, blk0_0, blk0_2]

theorem vw_at (c : Dev nD) (h : Fin 2) (b : Fin 32) (d : Fin 128) : vwAt m c (ix3 h b d) = wide (vnA m c b h d) (svA m c h) := by
  unfold vwAt
  rw [vWide_apply]
  unfold wide code
  rw [blk3_at, blk0_1, blk0_3]

theorem kc_at (c : Dev nD) (h : Fin 2) (b : Fin 32) (d : Fin 128) : kcAt m c (ix3 h b d) = code (knA m c b h d) (skA m c h) := by
  unfold kcAt
  rw [kCodes_apply]
  unfold code
  rw [blk2_at, blk0_2]

theorem vc_at (c : Dev nD) (h : Fin 2) (b : Fin 32) (d : Fin 128) : vcAt m c (ix3 h b d) = code (vnA m c b h d) (svA m c h) := by
  unfold vcAt
  rw [vCodes_apply]
  unfold code
  rw [blk3_at, blk0_3]

theorem nsc_at (c : Dev nD) (t : Fin cfg0.N) (r : Fin 16) :
    nsc (iblk m c 1 t) (kwAt m c) (bt t) r = score (qA m c (bt t) r) fun e => wide (knA m c (bt t) (hd r) e) (skA m c (hd r)) := by
  unfold nsc score
  simp only [blk1_at, kw_at]

/-- One element of the result. -/
def yA (c : Dev nD) (b : Fin 32) (r : Fin 16) (d : Fin 128) : EReal :=
  y (qA m c b r) (knA m c b (hd r)) (vnA m c b (hd r)) (kA m c b (hd r)) (vA m c b (hd r)) (skA m c (hd r)) (svA m c (hd r)) d

theorem c0 (t : Fin cfg0.N) : (grid0.coords t 0).val = (bt t).val := by
  have e0 : (grid0.coords t 0).val = t.val / 4 % 32 := Pipeline.Grid.coords_val t 0 (by decide) rfl
  have := lt128 t
  rw [e0]; show t.val / 4 % 32 = t.val / 4; omega

/-- At a last point of a batch entry the block stored is attention. -/
theorem y_at (c : Dev nD) (t : Fin cfg0.N) (ht : t.val % 4 = 3) (r : Fin 16) (d : Fin 128) :
    yAt m c t (ix3 0 r d) = yA m c (bt t) r d := by
  have hc : k0_cond3 (grid0.coords t) = 1#1 := (hcond0_2 t).mpr ht
  obtain ⟨i1, i2, i3⟩ := state_at m c t.val t.isLt
  unfold yAt
  rw [dif_pos hc, yOut_apply _ hc _ _ _ _ _ _ (bt t) (c0 t), i1, i2, i3, nsc_at, vw_at, ht]
  exact att_eq _ _ _ _

end Cert.KernelIdeal.Hand

end
-- ==== Proof.KRun.lean ====
/- The kernel program's run over the extended reals: its results as functions of its arguments. -/
module

public import proofs.«01_k».proof.Proof.KResult

@[expose] public section

set_option maxRecDepth 16384

noncomputable section

namespace Cert.KernelIdeal.Hand

open Idealize.ShloMosaic Idealize.ShloMosaic.TcCoe Cert.KernelIdeal Cert.KernelIdeal.Gen
open Idealize.ShloMosaic.Pipeline (Dat Cfg Window)
open Idealize.SL.Sem
open Cert.Softmax Cert.Spec

variable (m : (ℓ : Loc nD τ sig) → Buf (Elt Ideal) ℓ) (ρ : Dev nD → PrngReg)

/-! ## The result arrays -/

/-- Attention, row by row. -/
def yArr (c : Dev nD) : Vec Ideal S32x16x128 .f32 := fun i => yA m c (i 0) (i 1) (i 2)
/-- The new keys' codes, -/
def kArr (c : Dev nD) : Vec Ideal S2x32x128 .fp8e4m3 := fun i => code (knA m c (i 1) (i 0) (i 2)) (skA m c (i 0))
/-- and the new values'. -/
def vArr (c : Dev nD) : Vec Ideal S2x32x128 .fp8e4m3 := fun i => code (vnA m c (i 1) (i 0) (i 2)) (svA m c (i 0))

theorem idx6 : ∀ t : Fin cfg0.N, win0_6.index t 0 = t.val / 4 ∧ win0_6.index t 1 = 0 ∧ win0_6.index t 2 = 0 := by decide +kernel
theorem idx7 : ∀ t : Fin cfg0.N, win0_7.index t 0 = 0 ∧ win0_7.index t 1 = 0 ∧ win0_7.index t 2 = 0 := by decide +kernel
theorem idx8 : ∀ t : Fin cfg0.N, win0_8.index t 0 = 0 ∧ win0_8.index t 1 = 0 ∧ win0_8.index t 2 = 0 := by decide +kernel

theorem emb6 (t : Fin cfg0.N) (r : Fin 16) (d : Fin 128) : (win0_6.rect t).emb (ix3 0 r d) = (ix3 (bt t) r d : S32x16x128.Idx) := by
  have ⟨e0, e1, e2⟩ := idx6 t
  funext a
  refine Fin.ext ((win0_6.rect_emb_val t (ix3 0 r d) a).trans ?_)
  fin_cases a
  · show win0_6.index t 0 * 1 + 0 = t.val / 4; omega
  · show win0_6.index t 1 * 16 + r.val = r.val; omega
  · show win0_6.index t 2 * 128 + d.val = d.val; omega

theorem emb7 (t : Fin cfg0.N) (h : Fin 2) (b : Fin 32) (d : Fin 128) : (win0_7.rect t).emb (ix3 h b d) = (ix3 h b d : S2x32x128.Idx) := by
  have ⟨e0, e1, e2⟩ := idx7 t
  funext a
  refine Fin.ext ((win0_7.rect_emb_val t (ix3 h b d) a).trans ?_)
  fin_cases a
  · show win0_7.index t 0 * 2 + h.val = h.val; omega
  · show win0_7.index t 1 * 32 + b.val = b.val; omega
  · show win0_7.index t 2 * 128 + d.val = d.val; omega

theorem emb8 (t : Fin cfg0.N) (h : Fin 2) (b : Fin 32) (d : Fin 128) : (win0_8.rect t).emb (ix3 h b d) = (ix3 h b d : S2x32x128.Idx) := by
  have ⟨e0, e1, e2⟩ := idx8 t
  funext a
  refine Fin.ext ((win0_8.rect_emb_val t (ix3 h b d) a).trans ?_)
  fin_cases a
  · show win0_8.index t 0 * 2 + h.val = h.val; omega
  · show win0_8.index t 1 * 32 + b.val = b.val; omega
  · show win0_8.index t 2 * 128 + d.val = d.val; omega

theorem read6 (t : Fin cfg0.N) (G : Vec Ideal S32x16x128 .f32) (j : S1x16x128.Idx) :
    ((cfg0.win 6).blk t).view.read (Elt Ideal) G j = G ((win0_6.rect t).emb j) := rfl

theorem final6 (c : Dev nD) : (dats m 0 c).arrAt 6 cfg0.N = yArr m c := by
  refine (dats m 0 c).arrAt_eq_of_cover 6 (yArr m c) (fun t hf => ?_) (fun i => ?_)
  · have ht : t.val % 4 = 3 := (Cert.KernelIdeal.Gen.flush0_6 t).mp hf
    show (cfg0.win 6).cut (grid0.coords t) ((dats m 0 c).after 6 t) = _
    rw [after0_6]
    have hy := fun r d => y_at m c t ht r d
    generalize yAt m c t = Y at hy ⊢
    have he := fun r d => emb6 t r d
    funext (j : S1x16x128.Idx)
    idx_vars j
    have hj : j0 = 0 := Fin.fin_one_eq_zero j0
    rw [hj]
    refine (hy j1 j2).trans (Eq.trans ?_ (read6 t (yArr m c) (ix3 0 j1 j2)).symm)
    rw [he]
    unfold yArr
    simp only [ix3_0, ix3_1, ix3_2]
  · revert i
    intro (i : S32x16x128.Idx)
    idx_vars i
    have ht : 4 * i0.val + 3 < cfg0.N := by rw [show cfg0.N = 128 from N_0]; omega
    have hb : bt ⟨4 * i0.val + 3, ht⟩ = i0 := Fin.ext (by show (4 * i0.val + 3) / 4 = i0.val; omega)
    refine ⟨⟨4 * i0.val + 3, ht⟩, (Cert.KernelIdeal.Gen.flush0_6 _).mpr (by dsimp only; omega), ?_⟩
    have e := emb6 ⟨4 * i0.val + 3, ht⟩ i1 i2
    rw [hb] at e
    rw [← e]
    exact Finset.mem_map_of_mem _ (Finset.mem_univ _)

theorem final7 (c : Dev nD) : (dats m 0 c).arrAt 7 cfg0.N = kArr m c := by
  refine (dats m 0 c).arrAt_eq_of_cover 7 (kArr m c) (fun t hf => ?_) (fun i => ?_)
  · show (cfg0.win 7).cut (grid0.coords t) ((dats m 0 c).after 7 t) = _
    rw [after0_7]
    funext (j : S2x32x128.Idx)
    idx_vars j
    show kcAt m c (ix3 j0 j1 j2) = kArr m c ((win0_7.rect t).emb (ix3 j0 j1 j2))
    rw [emb7, kc_at]
    rfl
  · revert i
    intro (i : S2x32x128.Idx)
    idx_vars i
    have ht : 127 < cfg0.N := by rw [show cfg0.N = 128 from N_0]; omega
    refine ⟨⟨127, ht⟩, by rw [Cert.KernelIdeal.Hand.flush0_7]; rfl, ?_⟩
    rw [← emb7 ⟨127, ht⟩ i0 i1 i2]
    exact Finset.mem_map_of_mem _ (Finset.mem_univ _)

theorem final8 (c : Dev nD) : (dats m 0 c).arrAt 8 cfg0.N = vArr m c := by
  refine (dats m 0 c).arrAt_eq_of_cover 8 (vArr m c) (fun t hf => ?_) (fun i => ?_)
  · show (cfg0.win 8).cut (grid0.coords t) ((dats m 0 c).after 8 t) = _
    rw [after0_8]
    funext (j : S2x32x128.Idx)
    idx_vars j
    show vcAt m c (ix3 j0 j1 j2) = vArr m c ((win0_8.rect t).emb (ix3 j0 j1 j2))
    rw [emb8, vc_at]
    rfl
  · revert i
    intro (i : S2x32x128.Idx)
    idx_vars i
    have ht : 127 < cfg0.N := by rw [show cfg0.N = 128 from N_0]; omega
    refine ⟨⟨127, ht⟩, by rw [Cert.KernelIdeal.Hand.flush0_8]; rfl, ?_⟩
    rw [← emb8 ⟨127, ht⟩ i0 i1 i2]
    exact Finset.mem_map_of_mem _ (Finset.mem_univ _)

/-! ## The program's results -/

/-- The attention result. -/
def resY (c : Dev nD) : Vec Ideal S32x1x2048 .f32 := fun i =>
  yA m c (i 0) ⟨(i 2).val / 128, by have h : (i 2).val < 2048 := (i 2).isLt; omega⟩ ⟨(i 2).val % 128, Nat.mod_lt _ (by decide)⟩
/-- The new keys' codes. -/
def resK (c : Dev nD) : Vec Ideal S32x1x2x128 .fp8e4m3 := fun i => code (knA m c (i 0) (i 2) (i 3)) (skA m c (i 2))
/-- The new values' codes. -/
def resV (c : Dev nD) : Vec Ideal S32x1x2x128 .fp8e4m3 := fun i => code (vnA m c (i 0) (i 2) (i 3)) (svA m c (i 2))

theorem arr_y (c : Dev nD) : Pipeline.withArrays (cfgs 0).spec c (V0 m c) (fun w => (dats m 0 c).arrAt w (cfgs 0).N) (Proc.devRef .tc main_v66_0) = yArr m c :=
  (Pipeline.withArrays_arr (cfgs 0).spec launch0.win.arr_inj c (V0 m c) (fun w => (dats m 0 c).arrAt w (cfgs 0).N) 6).trans (final6 m c)
theorem arr_k (c : Dev nD) : Pipeline.withArrays (cfgs 0).spec c (V0 m c) (fun w => (dats m 0 c).arrAt w (cfgs 0).N) (Proc.devRef .tc main_v66_1) = kArr m c :=
  (Pipeline.withArrays_arr (cfgs 0).spec launch0.win.arr_inj c (V0 m c) (fun w => (dats m 0 c).arrAt w (cfgs 0).N) 7).trans (final7 m c)
theorem arr_v (c : Dev nD) : Pipeline.withArrays (cfgs 0).spec c (V0 m c) (fun w => (dats m 0 c).arrAt w (cfgs 0).N) (Proc.devRef .tc main_v66_2) = vArr m c :=
  (Pipeline.withArrays_arr (cfgs 0).spec launch0.win.arr_inj c (V0 m c) (fun w => (dats m 0 c).arrAt w (cfgs 0).N) 8).trans (final8 m c)

set_option maxHeartbeats 1000000

theorem tail_y (c : Dev nD) : Pipeline.afterTail₀ cfgs (dats m) 0 (V0 m) [hostOps1] c main_v67 = resY m c := by
  funext (i : S32x1x2048.Idx)
  idx_vars i
  obtain rfl : i1 = 0 := Subsingleton.elim _ _
  unfold Pipeline.afterTail₀
  have e := arr_y m c
  generalize Pipeline.withArrays (cfgs 0).spec c (V0 m c) (fun w => (dats m 0 c).arrAt w (cfgs 0).N) = W at e ⊢
  after_reads_at
  rw [e]
  rfl

theorem tail_k (c : Dev nD) : Pipeline.afterTail₀ cfgs (dats m) 0 (V0 m) [hostOps1] c main_v69 = resK m c := by
  funext (i : S32x1x2x128.Idx)
  idx_vars i
  unfold Pipeline.afterTail₀
  have e := arr_k m c
  generalize Pipeline.withArrays (cfgs 0).spec c (V0 m c) (fun w => (dats m 0 c).arrAt w (cfgs 0).N) = W at e ⊢
  after_reads_at
  rw [e]
  rfl

theorem tail_v (c : Dev nD) : Pipeline.afterTail₀ cfgs (dats m) 0 (V0 m) [hostOps1] c main_v71 = resV m c := by
  funext (i : S32x1x2x128.Idx)
  idx_vars i
  unfold Pipeline.afterTail₀
  have e := arr_v m c
  generalize Pipeline.withArrays (cfgs 0).spec c (V0 m c) (fun w => (dats m 0 c).arrAt w (cfgs 0).N) = W at e ⊢
  after_reads_at
  rw [e]
  rfl

/-- Every run of the kernel program ends with attention and the codes in its results. -/
theorem results : θ_run defs (onTc (τ := τ) (main (F := Ideal))) ⟨m, fun _ => 0, ρ⟩ (fun r => ∀ c : Dev nD,
      r.2.mem ((c.tc : Thread nD τ).loc main_v67) = resY m c
      ∧ r.2.mem ((c.tc : Thread nD τ).loc main_v69) = resK m c
      ∧ r.2.mem ((c.tc : Thread nD τ).loc main_v71) = resV m c) :=
  (θ_run defs _ _).mono (fun _ h c =>
    ⟨((h c).2 main_v67 (Pipeline.mem_restRefs_of main_v67 (by decide) (by decide))).trans (tail_y m c),
      ((h c).2 main_v69 (Pipeline.mem_restRefs_of main_v69 (by decide) (by decide))).trans (tail_k m c),
      ((h c).2 main_v71 (Pipeline.mem_restRefs_of main_v71 (by decide) (by decide))).trans (tail_v m c)⟩) (run_main m ρ)

end Cert.KernelIdeal.Hand

end
-- ==== Proof.RHead.lean ====
/- The reference's host lines before its casts, read at an index: the clipped new keys and values. -/
module

public import proofs.«01_k».proof.Proof.Gen.ReferenceIdeal.Frame
public import proofs.«01_k».proof.Proof.Spec
public import Idealize.ShloMosaic.Lib.StableHlo.ReadAt

@[expose] public section

set_option maxRecDepth 16384

noncomputable section

namespace Cert.ReferenceIdeal.Hand

open Idealize.ShloMosaic Idealize.ShloMosaic.TcCoe Cert.ReferenceIdeal Cert.ReferenceIdeal.Gen
open Cert.Spec

variable (m : (ℓ : Loc nD τ sig) → Buf (Elt Ideal) ℓ)

/-! ## The arguments, as functions -/

/-- The queries: batch entry, head, row of the head's group, column. -/
def qR (c : Dev nD) (b : Fin 32) (h : Fin 2) (g : Fin 8) (d : Fin 128) : EReal :=
  (m ((c : Thread nD τ).loc main_arg0) : Vec Ideal S32x1x2048 .f32) (ix3 b 0 ⟨h.val * 1024 + g.val * 128 + d.val, by omega⟩)
/-- The new keys. -/
def knR (c : Dev nD) (b : Fin 32) (h : Fin 2) (d : Fin 128) : EReal :=
  (m ((c : Thread nD τ).loc main_arg1) : Vec Ideal S32x1x2x128 .f32) (ix4 b 0 h d)
/-- The new values. -/
def vnR (c : Dev nD) (b : Fin 32) (h : Fin 2) (d : Fin 128) : EReal :=
  (m ((c : Thread nD τ).loc main_arg2) : Vec Ideal S32x1x2x128 .f32) (ix4 b 0 h d)
/-- The cached keys' codes. -/
def kR (c : Dev nD) (b : Fin 32) (h : Fin 2) (t : Fin 16384) (d : Fin 128) : EReal :=
  (m ((c : Thread nD τ).loc main_arg3) : Vec Ideal S32x16384x2x128 .fp8e4m3) (ix4 b t h d)
/-- The cached values' codes. -/
def vR (c : Dev nD) (b : Fin 32) (h : Fin 2) (t : Fin 16384) (d : Fin 128) : EReal :=
  (m ((c : Thread nD τ).loc main_arg5) : Vec Ideal S32x16384x2x128 .fp8e4m3) (ix4 b t h d)
/-- The keys' scales. -/
def skR (c : Dev nD) (h : Fin 2) : EReal := (m ((c : Thread nD τ).loc main_arg4) : Vec Ideal S2 .f32) (ix1 h)
/-- The values' scales. -/
def svR (c : Dev nD) (h : Fin 2) : EReal := (m ((c : Thread nD τ).loc main_arg6) : Vec Ideal S2 .f32) (ix1 h)

set_option maxHeartbeats 1000000

/-- The new keys, scaled and clipped. -/
theorem kq_at (c : Dev nD) (b : Fin 32) (h : Fin 2) (d : Fin 128) :
    (V m c main_v31 : Vec Ideal S32x1x2x128 .f32) (ix4 b 0 h d) = code (knR m c b h d) (skR m c h) := by
  unfold V knR skR code clip invS reached
  after_reads_simp
  simp -implicitDefEqProofs only [StableHlo.TRef.toBuf, StableHlo.TRef.ofBuf, cast_cast, cast_eq]
  clean_types
  pointwise
  rw [show id (constantI S_ 32 0#32) ix0 = 0#32 from rfl]
  rfl

/-- The new values, scaled and clipped. -/
theorem vq_at (c : Dev nD) (b : Fin 32) (h : Fin 2) (d : Fin 128) :
    (V m c main_v63 : Vec Ideal S32x1x2x128 .f32) (ix4 b 0 h d) = code (vnR m c b h d) (svR m c h) := by
  unfold V vnR svR code clip invS reached
  after_reads_simp
  simp -implicitDefEqProofs only [StableHlo.TRef.toBuf, StableHlo.TRef.ofBuf, cast_cast, cast_eq]
  clean_types
  pointwise
  rw [show id (constantI S_ 32 0#32) ix0 = 0#32 from rfl]
  rfl

end Cert.ReferenceIdeal.Hand

end
-- ==== Proof.RTail.lean ====
/- The reference's host lines after its casts, read at an index. -/
module

public import proofs.«01_k».proof.Proof.Gen.ReferenceIdeal.Frame
public import proofs.«01_k».proof.Proof.Spec
public import Idealize.ShloMosaic.Lib.StableHlo.ReadAt

@[expose] public section

set_option maxRecDepth 16384

noncomputable section

namespace Cert.ReferenceIdeal.Hand

open Idealize.ShloMosaic Idealize.ShloMosaic.TcCoe Cert.ReferenceIdeal Cert.ReferenceIdeal.Gen
open Cert.Softmax Cert.Spec

variable (W : Valuation τ sig (Elt Ideal))

set_option maxHeartbeats 1000000

/-- The lines up to the scores, -/
abbrev first : Valuation τ sig (Elt Ideal) := StableHlo.after (List.flatten [hostOps1, hostOps1_1, hostOps1_2, hostOps1_3]) W
/-- and those of the maximum. -/
abbrev mid : Valuation τ sig (Elt Ideal) := StableHlo.after (hostOps1_4.take 5) W

theorem after_parts : StableHlo.after (List.flatten [hostOps1, hostOps1_1, hostOps1_2, hostOps1_3, hostOps1_4]) W
    = StableHlo.after (hostOps1_4.drop 5) (mid (first W)) := rfl

/-! ## The lines after the maximum -/

/-- An element of the result, from the scores, the maximum and the values. -/
theorem last_at (s v : Fin 16384 → EReal) (s' v' M : EReal) (b : Fin 32) (j : Fin 2048)
    (h92 : ∀ t, (W main_v92 : Vec Ideal S32x2x8x1x16384 .f32) (ix5 b ⟨j.val / 1024, by omega⟩ ⟨j.val / 128 % 8, by omega⟩ 0 t) = s t)
    (h97 : (W main_v97 : Vec Ideal S32x2x8x1x1 .f32) (ix5 b ⟨j.val / 1024, by omega⟩ ⟨j.val / 128 % 8, by omega⟩ 0 0) = s')
    (h100 : (W main_v100 : Vec Ideal S32x2x8x1 .f32) (ix4 b ⟨j.val / 1024, by omega⟩ ⟨j.val / 128 % 8, by omega⟩ 0) = M)
    (h84 : ∀ t, (W main_v84 : Vec Ideal S32x16384x2x128 .bf16) (ix4 b t ⟨j.val / 1024, by omega⟩ ⟨j.val % 128, by omega⟩) = v t)
    (h74 : (W main_v74 : Vec Ideal S32x1x2x128 .bf16) (ix4 b 0 ⟨j.val / 1024, by omega⟩ ⟨j.val % 128, by omega⟩) = v') :
    (StableHlo.after (hostOps1_4.drop 5) W main_v120 : Vec Ideal S32x1x2048 .f32) (ix3 b 0 j)
      = Ideal.div ((∑ t, ex (s t - M) * v t) + ex (s' - M) * v') ((∑ t, ex (s t - M)) + ex (s' - M)) := by
  after_reads_at
  simp only [Fin.sum_univ_one]
  unfold ex
  simp only [← h92, ← h97, ← h100, ← h84, ← h74]

/-! ## The arrays these lines read, as functions -/

def aq (b : Fin 32) (h : Fin 2) (g : Fin 8) (d : Fin 128) : EReal :=
  (W main_arg0 : Vec Ideal S32x1x2048 .f32) (ix3 b 0 ⟨h.val * 1024 + g.val * 128 + d.val, by omega⟩)
def ask (h : Fin 2) : EReal := (W main_arg4 : Vec Ideal S2 .f32) (ix1 h)
def asv (h : Fin 2) : EReal := (W main_arg6 : Vec Ideal S2 .f32) (ix1 h)
def akn (b : Fin 32) (h : Fin 2) (d : Fin 128) : EReal := (W main_v64_2 : Vec Ideal S32x1x2x128 .bf16) (ix4 b 0 h d)
def avn (b : Fin 32) (h : Fin 2) (d : Fin 128) : EReal := (W main_v64_3 : Vec Ideal S32x1x2x128 .bf16) (ix4 b 0 h d)
def ak (b : Fin 32) (h : Fin 2) (t : Fin 16384) (d : Fin 128) : EReal := (W main_v64_4 : Vec Ideal S32x16384x2x128 .bf16) (ix4 b t h d)
def av (b : Fin 32) (h : Fin 2) (t : Fin 16384) (d : Fin 128) : EReal := (W main_v64_5 : Vec Ideal S32x16384x2x128 .bf16) (ix4 b t h d)
/-- The scores, -/
def asc (b : Fin 32) (h : Fin 2) (g : Fin 8) (t : Fin 16384) : EReal := (W main_v92 : Vec Ideal S32x2x8x1x16384 .f32) (ix5 b h g 0 t)
/-- and the new one. -/
def asn (b : Fin 32) (h : Fin 2) (g : Fin 8) : EReal := (W main_v97 : Vec Ideal S32x2x8x1x1 .f32) (ix5 b h g 0 0)

/-! ## The lines before the maximum -/

theorem sc_at (b : Fin 32) (h : Fin 2) (g : Fin 8) (t : Fin 16384) :
    (first W main_v92 : Vec Ideal S32x2x8x1x16384 .f32) (ix5 b h g 0 t) = score (aq W b h g) (fun d => ak W b h t d * ask W h) := by
  unfold score smScale
  after_reads_at
  exact congrArg (fun z : EReal => z * Ideal.ofBits FTy.f32 0x3DB504F3#32)
    (Finset.sum_congr rfl fun d _ => mul_comm (ak W b h t d * ask W h) (aq W b h g d))

theorem sn_at (b : Fin 32) (h : Fin 2) (g : Fin 8) :
    (first W main_v97 : Vec Ideal S32x2x8x1x1 .f32) (ix5 b h g 0 0) = score (aq W b h g) (fun d => akn W b h d * ask W h) := by
  unfold score smScale
  after_reads_at
  exact congrArg (fun z : EReal => z * Ideal.ofBits FTy.f32 0x3DB504F3#32)
    (Finset.sum_congr rfl fun d _ => mul_comm (akn W b h d * ask W h) (aq W b h g d))

theorem v_at (b : Fin 32) (h : Fin 2) (t : Fin 16384) (d : Fin 128) :
    (first W main_v84 : Vec Ideal S32x16384x2x128 .bf16) (ix4 b t h d) = av W b h t d * asv W h := by
  after_reads_at
  rfl

theorem vn_at (b : Fin 32) (h : Fin 2) (d : Fin 128) :
    (first W main_v74 : Vec Ideal S32x1x2x128 .bf16) (ix4 b 0 h d) = avn W b h d * asv W h := by
  after_reads_at
  rfl

/-! ## The maximum -/

theorem negInf : Ideal.ofBits FTy.f32 0xFF800000#32 = ⊥ := by simp [Ideal.ofBits, Ideal.ieee]

/-- A fold of `max` from minus infinity is the supremum. -/
theorem fold_max {n : ℕ} (f : Fin n → EReal) : Finset.fold max (⊥ : EReal) f Finset.univ = Finset.univ.sup f := rfl

theorem m98 (b : Fin 32) (h : Fin 2) (g : Fin 8) :
    (StableHlo.after (hostOps1_4.take 2) W main_v98 : Vec Ideal S32x2x8x1 .f32) (ix4 b h g 0) = Finset.univ.sup (asc W b h g) := by
  after_reads_at
  rw [show (4286578688#32 : BitVec 32) = 0xFF800000#32 from rfl, negInf, fold_max]
  rfl
theorem m99 (b : Fin 32) (h : Fin 2) (g : Fin 8) :
    (StableHlo.after ((hostOps1_4.drop 2).take 2) W main_v99 : Vec Ideal S32x2x8x1 .f32) (ix4 b h g 0) = asn W b h g := by
  after_reads_at
  rw [show (4286578688#32 : BitVec 32) = 0xFF800000#32 from rfl, negInf, fold_max, Finset.univ_unique, Finset.sup_singleton]
  rfl

def a98 (b : Fin 32) (h : Fin 2) (g : Fin 8) : EReal := (W main_v98 : Vec Ideal S32x2x8x1 .f32) (ix4 b h g 0)
def a99 (b : Fin 32) (h : Fin 2) (g : Fin 8) : EReal := (W main_v99 : Vec Ideal S32x2x8x1 .f32) (ix4 b h g 0)

theorem m100 (b : Fin 32) (h : Fin 2) (g : Fin 8) :
    (StableHlo.after ((hostOps1_4.drop 4).take 1) W main_v100 : Vec Ideal S32x2x8x1 .f32) (ix4 b h g 0) = max (a98 W b h g) (a99 W b h g) := by
  after_reads_at
  rfl

theorem keep98 : StableHlo.after ((hostOps1_4.drop 2).take 2) W main_v98 = W main_v98 := by after_reads_simp
theorem keep97 : StableHlo.after (hostOps1_4.take 2) W main_v97 = W main_v97 := by after_reads_simp

theorem mid_parts : mid W = StableHlo.after ((hostOps1_4.drop 4).take 1) (StableHlo.after ((hostOps1_4.drop 2).take 2) (StableHlo.after (hostOps1_4.take 2) W)) := rfl

theorem mx_at (b : Fin 32) (h : Fin 2) (g : Fin 8) :
    (mid W main_v100 : Vec Ideal S32x2x8x1 .f32) (ix4 b h g 0) = max (Finset.univ.sup (asc W b h g)) (asn W b h g) := by
  rw [mid_parts, m100, ← m98]
  unfold a98 a99
  rw [keep98, m99]
  unfold asn
  rw [keep97]

theorem mid92 : mid W main_v92 = W main_v92 := by after_reads_simp
theorem mid97 : mid W main_v97 = W main_v97 := by after_reads_simp
theorem mid84 : mid W main_v84 = W main_v84 := by after_reads_simp
theorem mid74 : mid W main_v74 = W main_v74 := by after_reads_simp

end Cert.ReferenceIdeal.Hand

end
-- ==== Proof.RRun.lean ====
/- The reference program's run over the extended reals: its results as functions of its arguments. -/
module

public import proofs.«01_k».proof.Proof.RHead
public import proofs.«01_k».proof.Proof.RTail
public import Idealize.ShloMosaic.Lib.Pipeline.Value

@[expose] public section

set_option maxRecDepth 16384

noncomputable section

namespace Cert.ReferenceIdeal.Hand

open Idealize.ShloMosaic Idealize.ShloMosaic.TcCoe Cert.ReferenceIdeal Cert.ReferenceIdeal.Gen
open Idealize.ShloMosaic.Pipeline (Dat Cfg Window)
open Idealize.SL.Sem
open Cert.Softmax Cert.Spec

variable (m : (ℓ : Loc nD τ sig) → Buf (Elt Ideal) ℓ) (ρ : Dev nD → PrngReg)

/-! ## The casts: each output holds its operand's values -/

theorem zeros4 : (![0, 0, 0, 0] : Fin 4 → Nat) = fun _ => 0 := by funext a; fin_cases a <;> rfl

theorem out4 (x0 x1 : Vec Ideal S32x1x2x128 .f32) (x2 x3 : Vec Ideal S32x16384x2x128 .fp8e4m3) : out0_4 x0 x1 x2 x3 = x0 := by
  unfold out0_4
  rw [View.canon_unit_zero (S := S32x1x2x128) zeros4, View.ld_unit_zero (S := S32x1x2x128) zeros4]
  funext j; idx_vars j
  pointwise [k0_pay2]
theorem out5 (x0 x1 : Vec Ideal S32x1x2x128 .f32) (x2 x3 : Vec Ideal S32x16384x2x128 .fp8e4m3) : out0_5 x0 x1 x2 x3 = x1 := by
  unfold out0_5
  rw [View.canon_unit_zero (S := S32x1x2x128) zeros4, View.ld_unit_zero (S := S32x1x2x128) zeros4]
  funext j; idx_vars j
  pointwise [k0_pay3]
theorem out6 (x0 x1 : Vec Ideal S32x1x2x128 .f32) (x2 x3 : Vec Ideal S32x16384x2x128 .fp8e4m3) : out0_6 x0 x1 x2 x3 = x0 := by
  unfold out0_6
  rw [View.canon_unit_zero (S := S32x1x2x128) zeros4, View.ld_unit_zero (S := S32x1x2x128) zeros4]
  funext j; idx_vars j
  pointwise [k0_pay4]
theorem out7 (x0 x1 : Vec Ideal S32x1x2x128 .f32) (x2 x3 : Vec Ideal S32x16384x2x128 .fp8e4m3) : out0_7 x0 x1 x2 x3 = x1 := by
  unfold out0_7
  rw [View.canon_unit_zero (S := S32x1x2x128) zeros4, View.ld_unit_zero (S := S32x1x2x128) zeros4]
  funext j; idx_vars j
  pointwise [k0_pay5]
theorem out8 (x0 x1 : Vec Ideal S32x1x2x128 .f32) (x2 x3 : Vec Ideal S32x16384x2x128 .fp8e4m3) : out0_8 x0 x1 x2 x3 = x2 := by
  unfold out0_8
  rw [View.canon_unit_zero (S := S32x16384x2x128) zeros4, View.ld_unit_zero (S := S32x16384x2x128) zeros4]
  funext j; idx_vars j
  pointwise [k0_pay6]
theorem out9 (x0 x1 : Vec Ideal S32x1x2x128 .f32) (x2 x3 : Vec Ideal S32x16384x2x128 .fp8e4m3) : out0_9 x0 x1 x2 x3 = x3 := by
  unfold out0_9
  rw [View.canon_unit_zero (S := S32x16384x2x128) zeros4, View.ld_unit_zero (S := S32x16384x2x128) zeros4]
  funext j; idx_vars j
  pointwise [k0_pay1]

/-! ## The operands' blocks: the whole arrays -/

theorem emb0 (t : Fin cfg0.N) (j : S32x1x2x128.Idx) : (win0_0.rect t).emb j = j := by
  funext a; refine Fin.ext ((win0_0.rect_emb_val t j a).trans ?_); show 0 * _ + (j a).val = (j a).val; omega
theorem emb1 (t : Fin cfg0.N) (j : S32x1x2x128.Idx) : (win0_1.rect t).emb j = j := by
  funext a; refine Fin.ext ((win0_1.rect_emb_val t j a).trans ?_); show 0 * _ + (j a).val = (j a).val; omega
theorem emb2 (t : Fin cfg0.N) (j : S32x16384x2x128.Idx) : (win0_2.rect t).emb j = j := by
  funext a; refine Fin.ext ((win0_2.rect_emb_val t j a).trans ?_); show 0 * _ + (j a).val = (j a).val; omega
theorem emb3 (t : Fin cfg0.N) (j : S32x16384x2x128.Idx) : (win0_3.rect t).emb j = j := by
  funext a; refine Fin.ext ((win0_3.rect_emb_val t j a).trans ?_); show 0 * _ + (j a).val = (j a).val; omega
theorem emb4 (t : Fin cfg0.N) (j : S32x1x2x128.Idx) : (win0_4.rect t).emb j = j := by
  funext a; refine Fin.ext ((win0_4.rect_emb_val t j a).trans ?_); show 0 * _ + (j a).val = (j a).val; omega
theorem emb5 (t : Fin cfg0.N) (j : S32x1x2x128.Idx) : (win0_5.rect t).emb j = j := by
  funext a; refine Fin.ext ((win0_5.rect_emb_val t j a).trans ?_); show 0 * _ + (j a).val = (j a).val; omega
theorem emb6 (t : Fin cfg0.N) (j : S32x1x2x128.Idx) : (win0_6.rect t).emb j = j := by
  funext a; refine Fin.ext ((win0_6.rect_emb_val t j a).trans ?_); show 0 * _ + (j a).val = (j a).val; omega
theorem emb7 (t : Fin cfg0.N) (j : S32x1x2x128.Idx) : (win0_7.rect t).emb j = j := by
  funext a; refine Fin.ext ((win0_7.rect_emb_val t j a).trans ?_); show 0 * _ + (j a).val = (j a).val; omega
theorem emb8 (t : Fin cfg0.N) (j : S32x16384x2x128.Idx) : (win0_8.rect t).emb j = j := by
  funext a; refine Fin.ext ((win0_8.rect_emb_val t j a).trans ?_); show 0 * _ + (j a).val = (j a).val; omega
theorem emb9 (t : Fin cfg0.N) (j : S32x16384x2x128.Idx) : (win0_9.rect t).emb j = j := by
  funext a; refine Fin.ext ((win0_9.rect_emb_val t j a).trans ?_); show 0 * _ + (j a).val = (j a).val; omega

theorem blk0 (c : Dev nD) (t : Fin cfg0.N) : (iblk m c 0 t : Vec Ideal S32x1x2x128 .f32) = V m c main_v31 :=
  funext fun j => congrArg (V m c main_v31 : Vec Ideal S32x1x2x128 .f32) (emb0 t j)
theorem blk1 (c : Dev nD) (t : Fin cfg0.N) : (iblk m c 1 t : Vec Ideal S32x1x2x128 .f32) = V m c main_v63 :=
  funext fun j => congrArg (V m c main_v63 : Vec Ideal S32x1x2x128 .f32) (emb1 t j)
theorem blk2 (c : Dev nD) (t : Fin cfg0.N) : (iblk m c 2 t : Vec Ideal S32x16384x2x128 .fp8e4m3) = m ((c : Thread nD τ).loc main_arg3) :=
  (funext fun j => congrArg (V m c main_arg3 : Vec Ideal S32x16384x2x128 .fp8e4m3) (emb2 t j)).trans (V_main_arg3 m c)
theorem blk3 (c : Dev nD) (t : Fin cfg0.N) : (iblk m c 3 t : Vec Ideal S32x16384x2x128 .fp8e4m3) = m ((c : Thread nD τ).loc main_arg5) :=
  (funext fun j => congrArg (V m c main_arg5 : Vec Ideal S32x16384x2x128 .fp8e4m3) (emb3 t j)).trans (V_main_arg5 m c)

/-! ## The result arrays of the casts -/

/-- The new keys' codes, -/
def kcodes (c : Dev nD) : S32x1x2x128.Idx → EReal := fun i => code (knR m c (i 0) (i 2) (i 3)) (skR m c (i 2))
/-- and the new values'. -/
def vcodes (c : Dev nD) : S32x1x2x128.Idx → EReal := fun i => code (vnR m c (i 0) (i 2) (i 3)) (svR m c (i 2))

theorem kclip_eq (c : Dev nD) : (V m c main_v31 : Vec Ideal S32x1x2x128 .f32) = kcodes m c := by
  funext j; idx_vars j
  obtain rfl : j1 = 0 := Subsingleton.elim _ _
  exact kq_at m c j0 j2 j3
theorem vclip_eq (c : Dev nD) : (V m c main_v63 : Vec Ideal S32x1x2x128 .f32) = vcodes m c := by
  funext j; idx_vars j
  obtain rfl : j1 = 0 := Subsingleton.elim _ _
  exact vq_at m c j0 j2 j3

theorem pt : 0 < cfg0.N := by rw [show cfg0.N = 1 from N_0]; exact Nat.one_pos

theorem final4 (c : Dev nD) : (dats m 0 c).arrAt 4 cfg0.N = (kcodes m c : Vec Ideal S32x1x2x128 .fp8e4m3) := by
  refine (dats m 0 c).arrAt_eq_of_cover 4 (kcodes m c : Vec Ideal S32x1x2x128 .fp8e4m3) (fun t _ => ?_) (fun i => ?_)
  · show (cfg0.win 4).cut (grid0.coords t) ((dats m 0 c).after 4 t) = _
    rw [after0_4, out4, blk0, kclip_eq]
    funext (j : S32x1x2x128.Idx)
    exact (congrArg (kcodes m c) (emb4 t j)).symm
  · exact ⟨⟨0, pt⟩, flush0_4 _, by rw [← emb4 ⟨0, pt⟩ i]; exact Finset.mem_map_of_mem _ (Finset.mem_univ _)⟩
theorem final5 (c : Dev nD) : (dats m 0 c).arrAt 5 cfg0.N = (vcodes m c : Vec Ideal S32x1x2x128 .fp8e4m3) := by
  refine (dats m 0 c).arrAt_eq_of_cover 5 (vcodes m c : Vec Ideal S32x1x2x128 .fp8e4m3) (fun t _ => ?_) (fun i => ?_)
  · show (cfg0.win 5).cut (grid0.coords t) ((dats m 0 c).after 5 t) = _
    rw [after0_5, out5, blk1, vclip_eq]
    funext (j : S32x1x2x128.Idx)
    exact (congrArg (vcodes m c) (emb5 t j)).symm
  · exact ⟨⟨0, pt⟩, flush0_5 _, by rw [← emb5 ⟨0, pt⟩ i]; exact Finset.mem_map_of_mem _ (Finset.mem_univ _)⟩
theorem final6 (c : Dev nD) : (dats m 0 c).arrAt 6 cfg0.N = (kcodes m c : Vec Ideal S32x1x2x128 .bf16) := by
  refine (dats m 0 c).arrAt_eq_of_cover 6 (kcodes m c : Vec Ideal S32x1x2x128 .bf16) (fun t _ => ?_) (fun i => ?_)
  · show (cfg0.win 6).cut (grid0.coords t) ((dats m 0 c).after 6 t) = _
    rw [after0_6, out6, blk0, kclip_eq]
    funext (j : S32x1x2x128.Idx)
    exact (congrArg (kcodes m c) (emb6 t j)).symm
  · exact ⟨⟨0, pt⟩, flush0_6 _, by rw [← emb6 ⟨0, pt⟩ i]; exact Finset.mem_map_of_mem _ (Finset.mem_univ _)⟩
theorem final7 (c : Dev nD) : (dats m 0 c).arrAt 7 cfg0.N = (vcodes m c : Vec Ideal S32x1x2x128 .bf16) := by
  refine (dats m 0 c).arrAt_eq_of_cover 7 (vcodes m c : Vec Ideal S32x1x2x128 .bf16) (fun t _ => ?_) (fun i => ?_)
  · show (cfg0.win 7).cut (grid0.coords t) ((dats m 0 c).after 7 t) = _
    rw [after0_7, out7, blk1, vclip_eq]
    funext (j : S32x1x2x128.Idx)
    exact (congrArg (vcodes m c) (emb7 t j)).symm
  · exact ⟨⟨0, pt⟩, flush0_7 _, by rw [← emb7 ⟨0, pt⟩ i]; exact Finset.mem_map_of_mem _ (Finset.mem_univ _)⟩
/-- The cached keys, as an array of extended reals, -/
def kcache (c : Dev nD) : S32x16384x2x128.Idx → EReal := m ((c : Thread nD τ).loc main_arg3)
/-- and the cached values. -/
def vcache (c : Dev nD) : S32x16384x2x128.Idx → EReal := m ((c : Thread nD τ).loc main_arg5)
theorem final8 (c : Dev nD) : (dats m 0 c).arrAt 8 cfg0.N = (kcache m c : Vec Ideal S32x16384x2x128 .bf16) := by
  refine (dats m 0 c).arrAt_eq_of_cover 8 (kcache m c : Vec Ideal S32x16384x2x128 .bf16) (fun t _ => ?_) (fun i => ?_)
  · show (cfg0.win 8).cut (grid0.coords t) ((dats m 0 c).after 8 t) = _
    rw [after0_8, out8, blk2]
    funext (j : S32x16384x2x128.Idx)
    exact (congrArg (kcache m c) (emb8 t j)).symm
  · exact ⟨⟨0, pt⟩, flush0_8 _, by rw [← emb8 ⟨0, pt⟩ i]; exact Finset.mem_map_of_mem _ (Finset.mem_univ _)⟩
theorem final9 (c : Dev nD) : (dats m 0 c).arrAt 9 cfg0.N = (vcache m c : Vec Ideal S32x16384x2x128 .bf16) := by
  refine (dats m 0 c).arrAt_eq_of_cover 9 (vcache m c : Vec Ideal S32x16384x2x128 .bf16) (fun t _ => ?_) (fun i => ?_)
  · show (cfg0.win 9).cut (grid0.coords t) ((dats m 0 c).after 9 t) = _
    rw [after0_9, out9, blk3]
    funext (j : S32x16384x2x128.Idx)
    exact (congrArg (vcache m c) (emb9 t j)).symm
  · exact ⟨⟨0, pt⟩, flush0_9 _, by rw [← emb9 ⟨0, pt⟩ i]; exact Finset.mem_map_of_mem _ (Finset.mem_univ _)⟩

/-! ## The lines after the casts -/

/-- What those lines find. -/
abbrev WR (c : Dev nD) : Valuation τ sig (Elt Ideal) :=
  Pipeline.withArrays (cfgs 0).spec c (V0 m c) (fun w => (dats m 0 c).arrAt w (cfgs 0).N)

theorem w_arg0 (c : Dev nD) : WR m c main_arg0 = m ((c : Thread nD τ).loc main_arg0) :=
  (Pipeline.withArrays_of_ne _ c (V0 m c) _ main_arg0 (by exact (by decide : ∀ w, Pipeline.arrRef spec0 w ≠ main_arg0))).trans (V_main_arg0 m c)
theorem w_arg4 (c : Dev nD) : WR m c main_arg4 = m ((c : Thread nD τ).loc main_arg4) :=
  (Pipeline.withArrays_of_ne _ c (V0 m c) _ main_arg4 (by exact (by decide : ∀ w, Pipeline.arrRef spec0 w ≠ main_arg4))).trans (V_main_arg4 m c)
theorem w_arg6 (c : Dev nD) : WR m c main_arg6 = m ((c : Thread nD τ).loc main_arg6) :=
  (Pipeline.withArrays_of_ne _ c (V0 m c) _ main_arg6 (by exact (by decide : ∀ w, Pipeline.arrRef spec0 w ≠ main_arg6))).trans (V_main_arg6 m c)
theorem w_kn (c : Dev nD) : WR m c main_v64_2 = (kcodes m c : Vec Ideal S32x1x2x128 .bf16) :=
  (Pipeline.withArrays_arr (cfgs 0).spec launch0.win.arr_inj c (V0 m c) (fun w => (dats m 0 c).arrAt w (cfgs 0).N) 6).trans (final6 m c)
theorem w_vn (c : Dev nD) : WR m c main_v64_3 = (vcodes m c : Vec Ideal S32x1x2x128 .bf16) :=
  (Pipeline.withArrays_arr (cfgs 0).spec launch0.win.arr_inj c (V0 m c) (fun w => (dats m 0 c).arrAt w (cfgs 0).N) 7).trans (final7 m c)
theorem w_k (c : Dev nD) : WR m c main_v64_4 = (kcache m c : Vec Ideal S32x16384x2x128 .bf16) :=
  (Pipeline.withArrays_arr (cfgs 0).spec launch0.win.arr_inj c (V0 m c) (fun w => (dats m 0 c).arrAt w (cfgs 0).N) 8).trans (final8 m c)
theorem w_v (c : Dev nD) : WR m c main_v64_5 = (vcache m c : Vec Ideal S32x16384x2x128 .bf16) :=
  (Pipeline.withArrays_arr (cfgs 0).spec launch0.win.arr_inj c (V0 m c) (fun w => (dats m 0 c).arrAt w (cfgs 0).N) 9).trans (final9 m c)

/-- One element of the reference's first result. -/
def yR (c : Dev nD) (b : Fin 32) (h : Fin 2) (g : Fin 8) (d : Fin 128) : EReal :=
  y (qR m c b h g) (knR m c b h) (vnR m c b h) (kR m c b h) (vR m c b h) (skR m c h) (svR m c h) d

/-- The lines after the casts, from what they find. -/
theorem last_eq (W : Valuation τ sig (Elt Ideal)) (b : Fin 32) (j : Fin 2048) (q kn vn : Fin 128 → EReal) (K Vv : Fin 16384 → Fin 128 → EReal) (sk sv : EReal)
    (hq : aq W b ⟨j.val / 1024, by omega⟩ ⟨j.val / 128 % 8, by omega⟩ = q)
    (hkn : akn W b ⟨j.val / 1024, by omega⟩ = fun d => code (kn d) sk)
    (hvn : avn W b ⟨j.val / 1024, by omega⟩ = fun d => code (vn d) sv)
    (hk : ak W b ⟨j.val / 1024, by omega⟩ = K)
    (hv : av W b ⟨j.val / 1024, by omega⟩ = Vv)
    (hsk : ask W ⟨j.val / 1024, by omega⟩ = sk)
    (hsv : asv W ⟨j.val / 1024, by omega⟩ = sv) :
    (StableHlo.after (List.flatten [hostOps1, hostOps1_1, hostOps1_2, hostOps1_3, hostOps1_4]) W main_v120 : Vec Ideal S32x1x2048 .f32) (ix3 b 0 j)
      = y q kn vn K Vv sk sv ⟨j.val % 128, by omega⟩ := by
  rw [after_parts]
  unfold y att
  refine last_at (mid (first W)) (fun t => score q fun e => K t e * sk) (fun t => Vv t ⟨j.val % 128, by omega⟩ * sv)
    (score q fun e => wide (kn e) sk) (wide (vn ⟨j.val % 128, by omega⟩) sv)
    (max (Finset.univ.sup fun t => score q fun e => K t e * sk) (score q fun e => wide (kn e) sk)) b j ?_ ?_ ?_ ?_ ?_
  · intro t; rw [mid92, sc_at, hq, hk, hsk]
  · rw [mid97, sn_at, hq, hkn, hsk]; rfl
  · rw [mx_at]
    have e1 : asc (first W) b ⟨j.val / 1024, by omega⟩ ⟨j.val / 128 % 8, by omega⟩ = fun t => score q fun e => K t e * sk := by
      funext t; unfold asc; rw [sc_at, hq, hk, hsk]
    have e2 : asn (first W) b ⟨j.val / 1024, by omega⟩ ⟨j.val / 128 % 8, by omega⟩ = score q fun e => wide (kn e) sk := by
      unfold asn; rw [sn_at, hq, hkn, hsk]; rfl
    rw [e1, e2]
  · intro t; rw [mid84, v_at, hv, hsv]
  · rw [mid74, vn_at, hvn, hsv]; rfl

theorem tail_y (c : Dev nD) (b : Fin 32) (j : Fin 2048) :
    (Pipeline.afterTail₀ cfgs (dats m) 0 (V0 m) [hostOps1, hostOps1_1, hostOps1_2, hostOps1_3, hostOps1_4] c main_v120 : Vec Ideal S32x1x2048 .f32) (ix3 b 0 j)
      = yR m c b ⟨j.val / 1024, by omega⟩ ⟨j.val / 128 % 8, by omega⟩ ⟨j.val % 128, by omega⟩ :=
  last_eq (WR m c) b j _ _ _ _ _ _ _
    (funext fun _ => by unfold aq; rw [w_arg0]; rfl)
    (funext fun _ => by unfold akn; rw [w_kn]; rfl)
    (funext fun _ => by unfold avn; rw [w_vn]; rfl)
    (funext fun _ => funext fun _ => by unfold ak; rw [w_k]; rfl)
    (funext fun _ => funext fun _ => by unfold av; rw [w_v]; rfl)
    (by unfold ask; rw [w_arg4]; rfl)
    (by unfold asv; rw [w_arg6]; rfl)

/-- Attention, as the reference's first result. -/
def resYR (c : Dev nD) : Vec Ideal S32x1x2048 .f32 := fun i =>
  yR m c (i 0) ⟨(i 2).val / 1024, by have h : (i 2).val < 2048 := (i 2).isLt; omega⟩ ⟨(i 2).val / 128 % 8, by omega⟩ ⟨(i 2).val % 128, by omega⟩

theorem tail_eq (c : Dev nD) :
    Pipeline.afterTail₀ cfgs (dats m) 0 (V0 m) [hostOps1, hostOps1_1, hostOps1_2, hostOps1_3, hostOps1_4] c main_v120 = resYR m c := by
  funext (i : S32x1x2048.Idx)
  idx_vars i
  obtain rfl : i1 = 0 := Subsingleton.elim _ _
  exact tail_y m c i0 i2

/-- Every run of the reference ends with attention and the codes in its results. -/
theorem results : θ_run defs (onTc (τ := τ) (main (F := Ideal))) ⟨m, fun _ => 0, ρ⟩ (fun r => ∀ c : Dev nD,
      r.2.mem ((c.tc : Thread nD τ).loc main_v120) = resYR m c
      ∧ r.2.mem ((c.tc : Thread nD τ).loc main_v64_0) = (kcodes m c : Vec Ideal S32x1x2x128 .fp8e4m3)
      ∧ r.2.mem ((c.tc : Thread nD τ).loc main_v64_1) = (vcodes m c : Vec Ideal S32x1x2x128 .fp8e4m3)) :=
  (θ_run defs _ _).mono (fun _ h c =>
    ⟨((h c).2 main_v120 (Pipeline.mem_restRefs_of main_v120 (by decide) (by decide))).trans (tail_eq m c),
      ((h c).1 4).trans (final4 m c), ((h c).1 5).trans (final5 m c)⟩) (run_main m ρ)

end Cert.ReferenceIdeal.Hand

end
-- ==== Proof.Agree.lean ====
/- From memories that agree on the arguments the two programs' results are the same functions. -/
module

public import proofs.«01_k».proof.Proof.KRun
public import proofs.«01_k».proof.Proof.RRun

@[expose] public section

set_option maxRecDepth 16384

noncomputable section

namespace Cert.Agree

open Idealize.ShloMosaic Idealize.ShloMosaic.TcCoe
open Cert.Spec
open Cert.KernelIdeal.Hand Cert.ReferenceIdeal.Hand

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The head of the query row that column `j` of the result belongs to. -/
theorem hd_row (j : Nat) (h : j < 2048) : hd ⟨j / 128, by omega⟩ = ⟨j / 1024, by omega⟩ := by
  unfold hd
  apply Fin.ext
  split
  · rename_i h1; dsimp only at h1; show 0 = j / 1024; omega
  · rename_i h1; dsimp only at h1; show 1 = j / 1024; omega

theorem q_eq (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (b : Fin 32) (j : Nat) (h : j < 2048) :
    qA m c b ⟨j / 128, by omega⟩ = qR m' c b ⟨j / 1024, by omega⟩ ⟨j / 128 % 8, by omega⟩ := by
  funext d
  have hi : (⟨j / 128 * 128 + d.val, by omega⟩ : Fin 2048) = ⟨j / 1024 * 1024 + j / 128 % 8 * 128 + d.val, by omega⟩ := Fin.ext (by dsimp only; omega)
  unfold qA qR
  dsimp only
  rw [hi]
  exact (congrFun e (ix3 b 0 _)).symm

theorem kn_eq (e : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    knA m c = knR m' c := funext fun b => funext fun h => funext fun d => (congrFun e (ix4 b 0 h d)).symm
theorem vn_eq (e : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    vnA m c = vnR m' c := funext fun b => funext fun h => funext fun d => (congrFun e (ix4 b 0 h d)).symm
theorem k_eq (e : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    kA m c = kR m' c := funext fun b => funext fun h => funext fun t => funext fun d => (congrFun e (ix4 b t h d)).symm
theorem sk_eq (e : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    skA m c = skR m' c := funext fun h => (congrFun e (ix1 h)).symm
theorem v_eq (e : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    vA m c = vR m' c := funext fun b => funext fun h => funext fun t => funext fun d => (congrFun e (ix4 b t h d)).symm
theorem sv_eq (e : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    svA m c = svR m' c := funext fun h => (congrFun e (ix1 h)).symm

/-- The memories agree on the arguments. -/
abbrev Args : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

/-- One element of attention is the same. -/
theorem yA_eq (e : Args m m' c) (b : Fin 32) (j : Nat) (h : j < 2048) :
    yR m' c b ⟨j / 1024, by omega⟩ ⟨j / 128 % 8, by omega⟩ ⟨j % 128, by omega⟩ = yA m c b ⟨j / 128, by omega⟩ ⟨j % 128, by omega⟩ := by
  obtain ⟨e0, e1, e2, e3, e4, e5, e6⟩ := e
  unfold yA yR
  rw [hd_row j h, q_eq m m' c e0 b j h, kn_eq m m' c e1, vn_eq m m' c e2, k_eq m m' c e3, sk_eq m m' c e4, v_eq m m' c e5, sv_eq m m' c e6]

/-- Attention is the same, -/
theorem y_eq (e : Args m m' c) : resYR m' c = resY m c :=
  funext fun i => yA_eq m m' c e (i 0) (i 2).val (i 2).isLt

/-- the new keys' codes are, -/
theorem kc_eq (e : Args m m' c) : (kcodes m' c : Vec Ideal Cert.ReferenceIdeal.S32x1x2x128 .fp8e4m3) = resK m c := by
  obtain ⟨e0, e1, e2, e3, e4, e5, e6⟩ := e
  unfold resK
  rw [kn_eq m m' c e1, sk_eq m m' c e4]
  rfl

/-- and the new values'. -/
theorem vc_eq (e : Args m m' c) : (vcodes m' c : Vec Ideal Cert.ReferenceIdeal.S32x1x2x128 .fp8e4m3) = resV m c := by
  obtain ⟨e0, e1, e2, e3, e4, e5, e6⟩ := e
  unfold resV
  rw [vn_eq m m' c e2, sv_eq m m' c e6]
  rfl

end Cert.Agree

end
-- ==== Proof.lean ====
/- The claims, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KFrame
public import proofs.«01_k».proof.Proof.PFrame
public import proofs.«01_k».proof.Proof.Agree
public import Idealize.ShloMosaic.Adequacy
public import Idealize.ShloMosaic.Init

@[expose] public section

noncomputable section

namespace Cert.Proof

open Idealize.ShloMosaic Idealize.SL.Sem Cert.Kernel

/-- From memories that agree on the arguments both programs run, end with equal results and leave their arguments. -/
theorem algebraic : Cert.algebraic_KernelIdeal_ReferenceIdeal (hKernelIdeal := Cert.KernelIdeal.Gen.facts) (hReferenceIdeal := Cert.ReferenceIdeal.Gen.facts) := by
  intro m g m' g' _ e
  refine ⟨fun c => Cert.KernelIdeal.Hand.resY m c, fun c => Cert.KernelIdeal.Hand.resK m c,
    fun c => m ((c.tc : Thread Cert.KernelIdeal.nD Cert.KernelIdeal.τ).loc Cert.KernelIdeal.main_arg4),
    fun c => Cert.KernelIdeal.Hand.resV m c,
    fun c => m ((c.tc : Thread Cert.KernelIdeal.nD Cert.KernelIdeal.τ).loc Cert.KernelIdeal.main_arg6), ?_, ?_⟩
  · exact (θ_run _ _ _).mono
      (fun _ h c => ⟨(h.1 c).1, (h.1 c).2.1, (h.2 c).2.2.2.2.1, (h.1 c).2.2, (h.2 c).2.2.2.2.2.2, h.2 c⟩)
      (θ_run_and (Cert.KernelIdeal.Hand.results m g) (Cert.KernelIdeal.Hand.unchanged m g))
  · exact (θ_run _ _ _).mono
      (fun _ h c => ⟨(h.1 c).1.trans (Cert.Agree.y_eq m m' c (e c)), (h.1 c).2.1.trans (Cert.Agree.kc_eq m m' c (e c)),
        (h.2 c).2.2.2.2.1.trans (e c).2.2.2.2.1, (h.1 c).2.2.trans (Cert.Agree.vc_eq m m' c (e c)),
        (h.2 c).2.2.2.2.2.2.trans (e c).2.2.2.2.2.2, h.2 c⟩)
      (θ_run_and (Cert.ReferenceIdeal.Hand.results m' g') (Cert.ReferenceIdeal.Gen.unchanged m' g'))

/-- The three frames, that the kernel over the real numbers is the kernel's own text, and that kernel and reference
    compute the same function over the extended reals. -/
theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g,
  fun m g _ => Cert.ReferenceIdeal.Gen.frame m g, trivial, algebraic⟩

end Cert.Proof

end
